-- ==== Defs.lean ====
def Pre_Kernel [hPre_tokens_ok : Cert.Pre_tokens_ok.Facts] (m : (ℓ : Loc Cert.Kernel.nD Cert.Kernel.τ Cert.Kernel.sig) → Buf (Elt Bits) ℓ) : Prop :=
  ∀ c : Dev Cert.Kernel.nD,
    (Cert.Pre_tokens_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tokens_ok : Cert.Pre_tokens_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_tokens_ok : Cert.Pre_tokens_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tokens_ok : Cert.Pre_tokens_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_tail" .f32 0x36A72ECF#32 ((200705⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_tokens_ok : Cert.Pre_tokens_ok.Facts) (hPre_inputs_ok : Cert.Pre_inputs_ok.Facts),
    quiescent_Kernel (hKernel := hKernel) (hPre_tokens_ok := hPre_tokens_ok)
    ∧ quiescent_KernelIdeal (hKernelIdeal := hKernelIdeal) (hPre_tokens_ok := hPre_tokens_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S204800 : Shape := ⟨1, ![204800]⟩
abbrev S4096 : Shape := ⟨1, ![4096]⟩
abbrev S100000x128 : Shape := ⟨2, ![100000, 128]⟩
abbrev S1024x128 : Shape := ⟨2, ![1024, 128]⟩
abbrev S1024 : Shape := ⟨1, ![1024]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel
  reducesTo_S4096_S_d0 : S4096.ReducesTo [0] S_

variable [Facts]

def fn {F : FTy → Type} [FloatOps F] (main_arg0 : IVec S204800 32) (main_arg1 : IVec S4096 32) (main_arg2 : FVec F S100000x128 .f32) (main_arg3 : FVec F S1024x128 .f32) (main_arg4 : FVec F S1024 .f32) : IVec S_ 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 32 := constantI S_ 32 100000#32
  let main_v2 : IVec S204800 32 := broadcastInDim S204800 ![] bcast_S_S204800 main_c_0
  let main_v3 : IVec S204800 1 := cmpi .slt main_arg0 main_v2
  let main_v4 : IVec S204800 1 := andi main_v1 main_v3
  let main_c_1 : IVec S_ 1 := constantI S_ 1 1#1
  let main_v5 : IVec S_ 1 := (fun x v => Host.reduce IntOp.andi x v reducesTo_S204800_S_d0 h_S_) main_v4 main_c_1
  let main_v6 : IVec S4096 32 := iotaInDim S4096 32 0
  let main_v7 : IVec S4096 1 := cmpi .eq main_arg1 main_v6
  let main_c_2 : IVec S_ 1 := constantI S_ 1 1#1
  let main_v8 : IVec S_ 1 := (fun x v => Host.reduce IntOp.andi x v reducesTo_S4096_S_d0 h_S_) main_v7 main_c_2
  let main_v9 : IVec S_ 1 := andi main_v5 main_v8
  main_v9
-- ==== Pre_tokens_ok.lean ====
abbrev S204800 : Shape := ⟨1, ![204800]⟩
abbrev S4096 : Shape := ⟨1, ![4096]⟩
abbrev S100000x128 : Shape := ⟨2, ![100000, 128]⟩
abbrev S1024x128 : Shape := ⟨2, ![1024, 128]⟩
abbrev S1024 : Shape := ⟨1, ![1024]⟩
abbrev S_ : Shape := ⟨0, ![]⟩

class Facts : Prop where
  bcast_S_S204800 : S_.BroadcastsInDim S204800 (![] : Fin 0 → Fin S204800.rank)
  reducesTo_S204800_S_d0 : S204800.ReducesTo [0] S_
  h_S_ : 0 < S_.numel

variable [Facts]

def fn {F : FTy → Type} [FloatOps F] (main_arg0 : IVec S204800 32) (main_arg1 : IVec S4096 32) (main_arg2 : FVec F S100000x128 .f32) (main_arg3 : FVec F S1024x128 .f32) (main_arg4 : FVec F S1024 .f32) : IVec S_ 1 :=
  let main_c : IVec S_ 32 := constantI S_ 32 0#32
  let main_v0 : IVec S204800 32 := broadcastInDim S204800 ![] bcast_S_S204800 main_c
  let main_v1 : IVec S204800 1 := cmpi .sge main_arg0 main_v0
  let main_c_0 : IVec S_ 32 := constantI S_ 32 100000#32
  let main_v2 : IVec S204800 32 := broadcastInDim S204800 ![] bcast_S_S204800 main_c_0
  let main_v3 : IVec S204800 1 := cmpi .slt main_arg0 main_v2
  let main_v4 : IVec S204800 1 := andi main_v1 main_v3
  let main_c_1 : IVec S_ 1 := constantI S_ 1 1#1
  let main_v5 : IVec S_ 1 := (fun x v => Host.reduce IntOp.andi x v reducesTo_S204800_S_d0 h_S_) main_v4 main_c_1
  main_v5
-- ==== Kernel.lean ====
abbrev S204800 : Shape := ⟨1, ![204800]⟩
abbrev S4096 : Shape := ⟨1, ![4096]⟩
abbrev S100000x128 : Shape := ⟨2, ![100000, 128]⟩
abbrev S1024x128 : Shape := ⟨2, ![1024, 128]⟩
abbrev S1024 : Shape := ⟨1, ![1024]⟩
abbrev S4096x128 : Shape := ⟨2, ![4096, 128]⟩
abbrev S32x128 : Shape := ⟨2, ![32, 128]⟩
abbrev S128 : Shape := ⟨1, ![128]⟩
abbrev S128x128 : Shape := ⟨2, ![128, 128]⟩
abbrev S_ : Shape := ⟨0, ![]⟩
abbrev S16 : Shape := ⟨1, ![16]⟩
abbrev S1x16 : Shape := ⟨2, ![1, 16]⟩
abbrev S1x128 : Shape := ⟨2, ![1, 128]⟩
abbrev S1x1024 : Shape := ⟨2, ![1, 1024]⟩
abbrev S4096x1024 : Shape := ⟨2, ![4096, 1024]⟩
abbrev S256x128 : Shape := ⟨2, ![256, 128]⟩
abbrev S1x256 : Shape := ⟨2, ![1, 256]⟩
abbrev S4096x256 : Shape := ⟨2, ![4096, 256]⟩
abbrev S4096x1 : Shape := ⟨2, ![4096, 1]⟩

abbrev nBuf : Table → Nat
  | .hbm => 9
  | .local .tc .vmem => 8
  | .local .scVector .vmem => 3
  | _ => 0

abbrev bufTy : (tb : Table) → Fin (nBuf tb) → BufTy
  | .hbm, ⟨0, _⟩ => ⟨S204800, .i32⟩
  | .hbm, ⟨1, _⟩ => ⟨S4096, .i32⟩
  | .hbm, ⟨2, _⟩ => ⟨S100000x128, .f32⟩
  | .hbm, ⟨3, _⟩ => ⟨S1024x128, .f32⟩
  | .hbm, ⟨4, _⟩ => ⟨S1024, .f32⟩
  | .hbm, ⟨5, _⟩ => ⟨S4096x128, .f32⟩
  | .hbm, ⟨6, _⟩ => ⟨S32x128, .f32⟩
  | .hbm, ⟨7, _⟩ => ⟨S1x1024, .f32⟩
  | .hbm, ⟨8, _⟩ => ⟨S4096x1024, .f32⟩
  | .local .tc .vmem, ⟨0, _⟩ => ⟨S4096x128, .f32⟩
  | .local .tc .vmem, ⟨1, _⟩ => ⟨S32x128, .f32⟩
  | .local .tc .vmem, ⟨2, _⟩ => ⟨S256x128, .f32⟩
  | .local .tc .vmem, ⟨3, _⟩ => ⟨S256x128, .f32⟩
  | .local .tc .vmem, ⟨4, _⟩ => ⟨S1x256, .f32⟩
  | .local .tc .vmem, ⟨5, _⟩ => ⟨S1x256, .f32⟩
  | .local .tc .vmem, ⟨6, _⟩ => ⟨S4096x256, .f32⟩
  | .local .tc .vmem, ⟨7, _⟩ => ⟨S4096x256, .f32⟩
  | .local .scVector .vmem, ⟨0, _⟩ => ⟨S128, .i32⟩
  | .local .scVector .vmem, ⟨1, _⟩ => ⟨S128x128, .f32⟩
  | .local .scVector .vmem, ⟨2, _⟩ => ⟨S128, .f32⟩
  | _, _ => ⟨S204800, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_arg0_scv : Ref sig .scVector := ⟨.hbm, 0, rfl⟩
abbrev main_arg2_scv : Ref sig .scVector := ⟨.hbm, 2, rfl⟩
abbrev main_v0_0_scv : Ref sig .scVector := ⟨.hbm, 5, rfl⟩
abbrev main_v0_1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_12_r1 : BitVec 32 := 0#32
  ![v2.toNat, 0]
@[reducible] def k0_t1_loop : Scf.Loop 32 :=
  let c0_i32_10 : BitVec 32 := 0#32
  let c49_i32 : BitVec 32 := 49#32
  let v15 : BitVec 32 := Scalar.addi c0_i32_10 c49_i32
  let c1_i32 : BitVec 32 := 1#32
  ⟨c0_i32_10, v15, c1_i32⟩
def k0_off3 (i : grid0.Coords) (k0_t1 : Fin k0_t1_loop.trips) : Fin 1 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6272_i32 : BitVec 32 := 6272#32
  let v5 : BitVec 32 := Scalar.muli v1 c6272_i32
  let v6 : BitVec 32 := Scalar.addi c4096_i32 v5
  let c0_i32_10 : BitVec 32 := 0#32
  let c1_i32 : BitVec 32 := 1#32
  let arg10 : BitVec 32 := Scf.iv c0_i32_10 c1_i32 k0_t1
  let c128_i32_12 : BitVec 32 := 128#32
  let v41 : BitVec 32 := Scalar.muli arg10 c128_i32_12
  let v42 : BitVec 32 := Scalar.addi v6 v41
  ![v42.toNat]
@[reducible] def k0_t2_loop : Scf.Loop 32 :=
  let c0_i32_17 : BitVec 32 := 0#32
  let c128_i32_18 : BitVec 32 := 128#32
  let v45 : BitVec 32 := Scalar.addi c0_i32_17 c128_i32_18
  let c1_i32_19 : BitVec 32 := 1#32
  ⟨c0_i32_17, v45, c1_i32_19⟩
def k0_off4 (k0_t2 : Fin k0_t2_loop.trips) : Fin 2 → Nat :=
  let c0_i32_17 : BitVec 32 := 0#32
  let c1_i32_19 : BitVec 32 := 1#32
  let arg19 : BitVec 32 := Scf.iv c0_i32_17 c1_i32_19 k0_t2
  let v47 : Index := Scalar.indexCast arg19
  let c0_21 : Index := 0#32
  ![v47.toNat, 0]
def k0_off5 (k0_t2 : Fin k0_t2_loop.trips) : Fin 2 → Nat :=
  let c0_i32_17 : BitVec 32 := 0#32
  let c1_i32_19 : BitVec 32 := 1#32
  let arg19 : BitVec 32 := Scf.iv c0_i32_17 c1_i32_19 k0_t2
  let v51 : Index := Scalar.indexCast arg19
  let c16_22 : Index := 16#32
  ![v51.toNat, 16]
def k0_off6 (k0_t2 : Fin k0_t2_loop.trips) : Fin 2 → Nat :=
  let c0_i32_17 : BitVec 32 := 0#32
  let c1_i32_19 : BitVec 32 := 1#32
  let arg19 : BitVec 32 := Scf.iv c0_i32_17 c1_i32_19 k0_t2
  let v55 : Index := Scalar.indexCast arg19
  let c32_23 : Index := 32#32
  ![v55.toNat, 32]
def k0_off7 (k0_t2 : Fin k0_t2_loop.trips) : Fin 2 → Nat :=
  let c0_i32_17 : BitVec 32 := 0#32
  let c1_i32_19 : BitVec 32 := 1#32
  let arg19 : BitVec 32 := Scf.iv c0_i32_17 c1_i32_19 k0_t2
  let v59 : Index := Scalar.indexCast arg19
  let c48_24 : Index := 48#32
  ![v59.toNat, 48]
def k0_off8 (k0_t2 : Fin k0_t2_loop.trips) : Fin 2 → Nat :=
  let c0_i32_17 : BitVec 32 := 0#32
  let c1_i32_19 : BitVec 32 := 1#32
  let arg19 : BitVec 32 := Scf.iv c0_i32_17 c1_i32_19 k0_t2
  let v63 : Index := Scalar.indexCast arg19
  let c64_25 : Index := 64#32
  ![v63.toNat, 64]
def k0_off9 (k0_t2 : Fin k0_t2_loop.trips) : Fin 2 → Nat :=
  let c0_i32_17 : BitVec 32 := 0#32
  let c1_i32_19 : BitVec 32 := 1#32
  let arg19 : BitVec 32 := Scf.iv c0_i32_17 c1_i32_19 k0_t2
  let v67 : Index := Scalar.indexCast arg19
  let c80_26 : Index := 80#32
  ![v67.toNat, 80]
def k0_off10 (k0_t2 : Fin k0_t2_loop.trips) : Fin 2 → Nat :=
  let c0_i32_17 : BitVec 32 := 0#32
  let c1_i32_19 : BitVec 32 := 1#32
  let arg19 : BitVec 32 := Scf.iv c0_i32_17 c1_i32_19 k0_t2
  let v71 : Index := Scalar.indexCast arg19
  let c96_27 : Index := 96#32
  ![v71.toNat, 96]
def k0_off11 (k0_t2 : Fin k0_t2_loop.trips) : Fin 2 → Nat :=
  let c0_i32_17 : BitVec 32 := 0#32
  let c1_i32_19 : BitVec 32 := 1#32
  let arg19 : BitVec 32 := Scf.iv c0_i32_17 c1_i32_19 k0_t2
  let v75 : Index := Scalar.indexCast arg19
  let c112_28 : Index := 112#32
  ![v75.toNat, 112]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r3 : BitVec 32 := 0#32
  ![v1.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_tail" => some ((200705⁻¹ : ℝ) : EReal)
  | _ => none
-- ==== ReferenceIdeal.lean ====
abbrev S204800 : Shape := ⟨1, ![204800]⟩
abbrev S4096 : Shape := ⟨1, ![4096]⟩
abbrev S100000x128 : Shape := ⟨2, ![100000, 128]⟩
abbrev S1024x128 : Shape := ⟨2, ![1024, 128]⟩
abbrev S1024 : Shape := ⟨1, ![1024]⟩
abbrev S_ : Shape := ⟨0, ![]⟩
abbrev S204800x1 : Shape := ⟨2, ![204800, 1]⟩
abbrev S1 : Shape := ⟨1, ![1]⟩
abbrev S1x1 : Shape := ⟨2, ![1, 1]⟩
abbrev S204800x128 : Shape := ⟨2, ![204800, 128]⟩
abbrev S1x4096 : Shape := ⟨2, ![1, 4096]⟩
abbrev S204800x4096 : Shape := ⟨2, ![204800, 4096]⟩
abbrev S4096x128 : Shape := ⟨2, ![4096, 128]⟩
abbrev S4096x1 : Shape := ⟨2, ![4096, 1]⟩
abbrev S128x1024 : Shape := ⟨2, ![128, 1024]⟩
abbrev S4096x1024 : Shape := ⟨2, ![4096, 1024]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S204800, .i32⟩
  | .hbm, ⟨1, _⟩ => ⟨S4096, .i32⟩
  | .hbm, ⟨2, _⟩ => ⟨S100000x128, .f32⟩
  | .hbm, ⟨3, _⟩ => ⟨S1024x128, .f32⟩
  | .hbm, ⟨4, _⟩ => ⟨S1024, .f32⟩
  | .hbm, ⟨5, _⟩ => ⟨S_, .i32⟩
  | .hbm, ⟨6, _⟩ => ⟨S204800, .i32⟩
  | .hbm, ⟨7, _⟩ => ⟨S204800, .i1⟩
  | .hbm, ⟨8, _⟩ => ⟨S_, .i32⟩
  | .hbm, ⟨9, _⟩ => ⟨S204800, .i32⟩
  | .hbm, ⟨10, _⟩ => ⟨S204800, .i32⟩
  | .hbm, ⟨11, _⟩ => ⟨S204800, .i32⟩
  | .hbm, ⟨12, _⟩ => ⟨S204800x1, .i32⟩
  | .hbm, ⟨13, _⟩ => ⟨S1, .i32⟩
  | .hbm, ⟨14, _⟩ => ⟨S_, .i32⟩
  | .hbm, ⟨15, _⟩ => ⟨S204800x1, .i32⟩
  | .hbm, ⟨16, _⟩ => ⟨S204800x1, .i1⟩
  | .hbm, ⟨17, _⟩ => ⟨S1x1, .i32⟩
  | .hbm, ⟨18, _⟩ => ⟨S204800x1, .i32⟩
  | .hbm, ⟨19, _⟩ => ⟨S204800x1, .i1⟩
  | .hbm, ⟨20, _⟩ => ⟨S204800x1, .i1⟩
  | .hbm, ⟨21, _⟩ => ⟨S_, .i1⟩
  | .hbm, ⟨22, _⟩ => ⟨S204800, .i1⟩
  | .hbm, ⟨23, _⟩ => ⟨S204800x128, .f32⟩
  | .hbm, ⟨24, _⟩ => ⟨S204800x128, .i1⟩
  | .hbm, ⟨25, _⟩ => ⟨S_, .f32⟩
  | .hbm, ⟨26, _⟩ => ⟨S204800x128, .f32⟩
  | .hbm, ⟨27, _⟩ => ⟨S204800x128, .f32⟩
  | .hbm, ⟨28, _⟩ => ⟨S1x4096, .i32⟩
  | .hbm, ⟨29, _⟩ => ⟨S204800, .i32⟩
  | .hbm, ⟨30, _⟩ => ⟨S204800x1, .i32⟩
  | .hbm, ⟨31, _⟩ => ⟨S204800x4096, .i32⟩
  | .hbm, ⟨32, _⟩ => ⟨S204800x4096, .i32⟩
  | .hbm, ⟨33, _⟩ => ⟨S204800x4096, .i1⟩
  | .hbm, ⟨34, _⟩ => ⟨S204800x4096, .i32⟩
  | .hbm, ⟨35, _⟩ => ⟨S_, .i32⟩
  | .hbm, ⟨36, _⟩ => ⟨S204800, .i32⟩
  | .hbm, ⟨37, _⟩ => ⟨S_, .i32⟩
  | .hbm, ⟨38, _⟩ => ⟨S204800, .i32⟩
  | .hbm, ⟨39, _⟩ => ⟨S204800, .i32⟩
  | .hbm, ⟨40, _⟩ => ⟨S_, .f32⟩
  | .hbm, ⟨41, _⟩ => ⟨S4096x128, .f32⟩
  | .hbm, ⟨42, _⟩ => ⟨S204800x1, .i32⟩
  | .hbm, ⟨43, _⟩ => ⟨S4096x128, .f32⟩
  | .hbm, ⟨44, _⟩ => ⟨S_, .f32⟩
  | .hbm, ⟨45, _⟩ => ⟨S204800, .f32⟩
  | .hbm, ⟨46, _⟩ => ⟨S_, .f32⟩
  | .hbm, ⟨47, _⟩ => ⟨S4096, .f32⟩
  | .hbm, ⟨48, _⟩ => ⟨S204800x1, .i32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1, .f32⟩
  | .hbm, ⟨54, _⟩ => ⟨S4096x128, .f32⟩
  | .hbm, ⟨55, _⟩ => ⟨S4096x128, .f32⟩
  | .hbm, ⟨56, _⟩ => ⟨S128x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | _, _ => ⟨S204800, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c : Ref sig .tc := ⟨.hbm, 35, rfl⟩
abbrev main_v8 : Ref sig .tc := ⟨.hbm, 36, rfl⟩
abbrev main_c_0 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst_1 : Ref sig .tc := ⟨.hbm, 44, rfl⟩
abbrev main_v14 : Ref sig .tc := ⟨.hbm, 45, rfl⟩
abbrev main_cst_2 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩

abbrev nD : Nat := 1
abbrev τ : Topo := Topo.v7x

variable {F : FTy → Type} [FloatOps F]
-- ==== Proof.Common.lean ====
/-
  What the other modules share: the launch as the library sees it, the arrays and scratch buffers of the
  SparseCore call as its tiles address them, and the VALUES the call leaves, as plain functions of the two
  arrays it reads (the token numbers and the table):

  * `rowOf`: the table row a token names;
  * `gathered`: row `n` of the first result is the table row of token `n` (for the first 4096 tokens);
  * `accum`: the running sum of the table rows of `n` consecutive tokens, in the kernel's order;
  * `partials`: row `w` of the second result is the sum over tile `w`'s 6272 tokens of the tail.

  Everything is written for the idealized program over any float values, with the one named constant read
  through the class `Named`; the program as printed is the same text at the printed constant.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Common

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The ghost state: the handshakes' rounds, the pipeline's rounds and the transfers' counters -/

/-- The handshakes' rounds, the pipeline's rounds, and both with the transfers' counters. -/
abbrev UH : Type := URounds (GSem nD τ sig) ℕ
abbrev UP : Type := URounds (GSem nD τ sig) Unit
abbrev UU : Type := UH × (UP × Counters)

/-- The machine's resources at this launch. -/
abbrev MM (F : FTy → Type) : Type := MT nD τ sig (HIx 1) (Elt F) ℕ UU ℕ

abbrev EH : Emb UH (MM F) := embL

/-- The pipeline's place: the left of the right component. -/
def EP : Emb UP (MM F) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

/-- The pipeline's place lies among the user's resources. -/
instance EP_landsIn : (EP : Emb UP (MM F)).LandsIn (upEmb : UEmb _ (MM F)) := by unfold EP; infer_instance

/-- The launch's ghost state is the handshakes' and the pipeline's. -/
theorem ownU_split (a : UH) (b : UP) : (ownU ((a, (b, 1)) : UU) : sProp (MM F)) ⊢ iprop(BI.own (EH a) ∗ BI.own (EP b)) :=
  BI.own_op_elim ((uEmb (nD := nD) (τ := τ) (sig := sig) (Ix := HIx 1) (Val := Elt F) (Name := ℕ) (U := UU) (Lvl := ℕ)).toEmb.op_of_mem
    (Prod.mk_mem_op (URA.mem_op_one a) (URA.mem_one_op (b, (1 : Counters)))))

/-! ## The arrays -/

/-- The HBM arrays as @main on a chip's TensorCore names them: tokens, offsets, table, weights, biases; the two SparseCore results; the reshaped biases; the result. -/
abbrev tLoc (d : Dev nD) : Loc nD τ sig := (SparseCore.T d).loc main_arg0
abbrev offLoc (d : Dev nD) : Loc nD τ sig := (SparseCore.T d).loc main_arg1
abbrev xLoc (d : Dev nD) : Loc nD τ sig := (SparseCore.T d).loc main_arg2
abbrev wLoc (d : Dev nD) : Loc nD τ sig := (SparseCore.T d).loc main_arg3
abbrev bLoc (d : Dev nD) : Loc nD τ sig := (SparseCore.T d).loc main_arg4
abbrev gLoc (d : Dev nD) : Loc nD τ sig := (SparseCore.T d).loc main_v0_0
abbrev pLoc (d : Dev nD) : Loc nD τ sig := (SparseCore.T d).loc main_v0_1
abbrev rLoc (d : Dev nD) : Loc nD τ sig := (SparseCore.T d).loc main_v1
abbrev oLoc (d : Dev nD) : Loc nD τ sig := (SparseCore.T d).loc main_v2

/-- The arrays and the scratch buffers as a tile names them. -/
abbrev tV : Memref sig .scVector .hbm S204800 .i32 := Memref.whole main_arg0_scv
abbrev xV : Memref sig .scVector .hbm S100000x128 .f32 := Memref.whole main_arg2_scv
abbrev gV : Memref sig .scVector .hbm S4096x128 .f32 := Memref.whole main_v0_0_scv
abbrev pV : Memref sig .scVector .hbm S32x128 .f32 := Memref.whole main_v0_1_scv
abbrev sV : Memref sig .scVector .vmem S128 .i32 := Memref.whole cc0_scratch0
abbrev rV : Memref sig .scVector .vmem S128x128 .f32 := Memref.whole cc0_scratch1
abbrev aV : Memref sig .scVector .vmem S128 .f32 := Memref.whole cc0_scratch2

/-! ## The values -/

/-- The table row a token's word names. -/
def rowOf (w : BitVec 32) : Fin 100000 := ⟨w.toNat % 100000, Nat.mod_lt _ (by norm_num)⟩

/-- A token below the table's height names its own row. -/
theorem rowOf_val {w : BitVec 32} (h : w.toNat < 100000) : (rowOf w).val = w.toNat := Nat.mod_eq_of_lt h

/-- The row of token `n`, at column `j`. -/
def tokRow (ft : S204800.Idx → BitVec 32) (fx : S100000x128.Idx → F .f32) (n : ℕ) (j : Fin 128) : F .f32 :=
  fx (ix2 (rowOf (ft (ix1 ⟨n % 204800, Nat.mod_lt _ (by norm_num)⟩))) j)

/-- The first result: row `n` is token `n`'s. -/
def gathered (ft : S204800.Idx → BitVec 32) (fx : S100000x128.Idx → F .f32) : S4096x128.Idx → F .f32 :=
  fun y => tokRow ft fx (y 0).val (y 1)

/-- The 128 rows the offset list holds when it was fetched at token `b`. -/
def chunkRows (ft : S204800.Idx → BitVec 32) (fx : S100000x128.Idx → F .f32) (b : ℕ) : S128x128.Idx → F .f32 :=
  fun y => tokRow ft fx (b + (y 0).val) (y 1)

variable [FloatOps F]

/-- The sum of the rows of the `n` tokens from `b`, in the order the kernel adds them, from zero. -/
def accum (ft : S204800.Idx → BitVec 32) (fx : S100000x128.Idx → F .f32) (b : ℕ) : ℕ → Fin 128 → F .f32
  | 0, _ => Scalar.ofBits .f32 0x00000000#32
  | n + 1, j => FloatOps.addf (accum ft fx b n j) (tokRow ft fx (b + n) j)

/-- The first token of tile `w`'s part of the tail. -/
def tailAt (w : ℕ) : ℕ := 4096 + 6272 * w

/-- The second result: row `w` is tile `w`'s sum. -/
def partials (ft : S204800.Idx → BitVec 32) (fx : S100000x128.Idx → F .f32) : S32x128.Idx → F .f32 :=
  fun y => accum ft fx (tailAt (y 0).val) 6272 (y 1)

/-- Sixteen lanes of the running sum, from lane `o`: one of the eight vectors the kernel carries. -/
def accVec (ft : S204800.Idx → BitVec 32) (fx : S100000x128.Idx → F .f32) (b n : ℕ) (o : Fin 8) : S16.Idx → F .f32 :=
  fun l => accum ft fx b n ⟨16 * o.val + (l 0).val, by
    have h : (l 0).val < 16 := (l 0).isLt
    have := o.isLt; omega⟩

/-- The eight vectors together. -/
def acc8 (ft : S204800.Idx → BitVec 32) (fx : S100000x128.Idx → F .f32) (b n : ℕ) :
    FVec F S16 .f32 × FVec F S16 .f32 × FVec F S16 .f32 × FVec F S16 .f32 × FVec F S16 .f32 × FVec F S16 .f32 × FVec F S16 .f32 × FVec F S16 .f32 :=
  (accVec ft fx b n 0, accVec ft fx b n 1, accVec ft fx b n 2, accVec ft fx b n 3, accVec ft fx b n 4, accVec ft fx b n 5, accVec ft fx b n 6, accVec ft fx b n 7)

end Cert.Proof.Common

end
-- ==== Proof.Chunk.lean ====
/-
  What a chunk of 128 tokens moves, as functions: the offset list a tile fetches at token `b` names the rows of the
  tokens from `b` on (`list_read`, `list_lt`), the rows gathered by it are `chunkRows` at `b` (`gather_rows`), and a
  vector read of such a chunk's row adds one token to the running sum (`acc_step`).
-/
module

public import proofs.«01_k».proof.Proof.Common

@[expose] public section

noncomputable section

namespace Cert.Proof.Chunk

open Cert.KernelIdeal Cert.KernelIdeal.Gen Cert.Proof.Common
open Idealize.ShloMosaic

variable {F : FTy → Type}

/-! ## The offset list -/

/-- Word `x` of a list fetched whole from offset `off`: the token number there. -/
theorem list_read (ft : S204800.Idx → BitVec 32) (off : Fin S204800.rank → ℕ) (h : ∀ a, off a + S128.size a ≤ S204800.size a)
    (hst : ∀ a, (Rect.unit (s := S204800) off S128.size h).stride a = 1) (g : S128.Idx → BitVec 32) (x : S128.Idx) :
    sV.view.read (Elt F) (View.write (Elt F) sV.view g (ReadAs.same.apply ((tV.slice (Rect.unit (s := S204800) off S128.size h) hst).view.read (Elt F) ft)) Finset.univ) x
      = ft (ix1 ⟨off 0 + (x 0).val, lt_of_lt_of_le (Nat.add_lt_add_left (x 0).isLt _) (h 0)⟩) := by
  rw [View.read_write_univ]
  change ft _ = ft _
  congr 1
  refine funext fun a => ?_
  match a with
  | 0 => exact Fin.ext (show off 0 + 1 * (x 0).val = off 0 + (x 0).val by rw [Nat.one_mul])

/-- Every word of the list is a row of the table. -/
theorem list_lt (ft : S204800.Idx → BitVec 32) (hpre : ∀ j, (ft j).toNat < 100000) (off : Fin S204800.rank → ℕ) (h : ∀ a, off a + S128.size a ≤ S204800.size a)
    (hst : ∀ a, (Rect.unit (s := S204800) off S128.size h).stride a = 1) (g : S128.Idx → BitVec 32) (x : S128.Idx) :
    (sV.view.read (Elt F) (View.write (Elt F) sV.view g (ReadAs.same.apply ((tV.slice (Rect.unit (s := S204800) off S128.size h) hst).view.read (Elt F) ft)) Finset.univ) x).toNat
      < S100000x128.size gathers_S100000x128_S128x128.axis := by
  rw [list_read]; exact hpre _

/-! ## The gathered rows -/

/-- The rows the list fetched at `off` gathers. -/
theorem gather_rows (ft : S204800.Idx → BitVec 32) (fx : S100000x128.Idx → F .f32) (hpre : ∀ j, (ft j).toNat < 100000)
    (off : Fin S204800.rank → ℕ) (h : ∀ a, off a + S128.size a ≤ S204800.size a) (hst : ∀ a, (Rect.unit (s := S204800) off S128.size h).stride a = 1)
    (g : S128.Idx → BitVec 32)
    (hst' : ∀ a, (Rect.unit (s := S100000x128) ![0, 0] S100000x128.size inb_S100000x128_S100000x128_0_0).stride a = 1)
    (hn : S128.numel = S128x128.size gathers_S100000x128_S128x128.axis')
    (hl : ∀ x, (sV.view.read (Elt F) (View.write (Elt F) sV.view g (ReadAs.same.apply ((tV.slice (Rect.unit (s := S204800) off S128.size h) hst).view.read (Elt F) ft)) Finset.univ) x).toNat
      < S100000x128.size gathers_S100000x128_S128x128.axis) :
    SparseCore.gatherPayload gathers_S100000x128_S128x128
        ((xV.slice (Rect.unit (s := S100000x128) ![0, 0] S100000x128.size inb_S100000x128_S100000x128_0_0) hst').view.read (Elt F) fx)
        (SparseCore.rows (sV.view.read (Elt F) (View.write (Elt F) sV.view g (ReadAs.same.apply ((tV.slice (Rect.unit (s := S204800) off S128.size h) hst).view.read (Elt F) ft)) Finset.univ)) hn hl)
      = chunkRows ft fx (off 0) := by
  funext y
  have h0 : off 0 + (y 0).val < 204800 := lt_of_lt_of_le (Nat.add_lt_add_left (y 0).isLt _) (h 0)
  change fx _ = fx _
  congr 1
  refine funext fun a => ?_
  match a with
  | 0 =>
    apply Fin.ext
    change 0 + 1 * (gathers_S100000x128_S128x128.idx _ y gathers_S100000x128_S128x128.axis).val = _
    rw [Shape.Gathers.idx_axis, Nat.zero_add, Nat.one_mul]
    unfold SparseCore.rows
    dsimp only
    rw [list_read (hst := hst)]
    have hx : ∀ k : Fin S128.numel, ((S128.rowMajor.symm k) 0).val = k.val := fun k => by
      conv_rhs => rw [← S128.rowMajor.apply_symm_apply k]
      exact (Shape.rowMajor_val_one _).symm
    have e : (⟨off 0 + (y 0).val, h0⟩ : Fin 204800) = ⟨(off 0 + (y 0).val) % 204800, Nat.mod_lt _ (by norm_num)⟩ :=
      Fin.ext (Nat.mod_eq_of_lt h0).symm
    refine Eq.trans (b := (ft (ix1 ⟨off 0 + (y 0).val, h0⟩)).toNat) ?_ ?_
    · congr 3
      exact Fin.ext (congrArg (off 0 + ·) (hx _))
    · rw [e]; exact (rowOf_val (hpre _)).symm
  | 1 =>
    apply Fin.ext
    change 0 + 1 * (gathers_S100000x128_S128x128.idx _ y 1).val = _
    rw [Shape.Gathers.idx_of_ne _ _ _ _ (by decide), Nat.zero_add, Nat.one_mul]
    rfl

/-- A scratch buffer of rows written whole holds what was written. -/
theorem rows_landed (r w : S128x128.Idx → F .f32) : rV.view.writes (Elt F) r [⟨Rect.whole S128x128, w⟩] = w :=
  View.read_writes_whole (Val := Elt F) rV.view r w

/-- The 4096 first rows, at a tile's block of 128. -/
theorem gathered_eq (ft : S204800.Idx → BitVec 32) (fx : S100000x128.Idx → F .f32) (b : ℕ) (y : S128x128.Idx) (i : S4096x128.Idx)
    (h0 : (i 0).val = b + (y 0).val) (h1 : (i 1).val = (y 1).val) : gathered ft fx i = chunkRows ft fx b y := by
  unfold gathered chunkRows
  rw [h0, show i 1 = y 1 from Fin.ext h1]

/-- An element of a chunk's row `t`. -/
theorem chunk_apply (ft : S204800.Idx → BitVec 32) (fx : S100000x128.Idx → F .f32) (c t b n : ℕ) (hc : b + n = c + t) (y : S128x128.Idx) (j : Fin 128)
    (h0 : (y 0).val = t) (h1 : (y 1).val = j.val) : chunkRows ft fx c y = tokRow ft fx (b + n) j := by
  unfold chunkRows
  rw [h0, hc, show y 1 = j from Fin.ext h1]

variable [FloatOps F]

/-- One row of a chunk added to sixteen lanes of the running sum. -/
theorem acc_step (ft : S204800.Idx → BitVec 32) (fx : S100000x128.Idx → F .f32) (b n c t : ℕ) (hc : b + n = c + t) (o : Fin 8)
    (off : Fin S128x128.rank → ℕ) (h : ∀ a, off a + S1x16.size a ≤ S128x128.size a) (hoff : off = ![t, 16 * o.val]) :
    addf (accVec ft fx b n o) (shapeCast S16 (rV.view.readAt (Elt F) (Rect.unit (s := S128x128) off S1x16.size h).toLoadRect (chunkRows ft fx c)) shapeCasts_S1x16_S16)
      = accVec ft fx b (n + 1) o := by
  subst hoff
  funext l
  change FloatOps.addf (accVec ft fx b n o l) (chunkRows ft fx c _) = FloatOps.addf (accVec ft fx b n o l) (tokRow ft fx (b + n) _)
  congr 1
  have e : Shape.reshapeEquiv shapeCasts_S1x16_S16 l = (ix2 (0 : Fin 1) (⟨(l 0).val, (l 0).isLt⟩ : Fin 16) : S1x16.Idx) :=
    Shape.reshapeEquiv_eq_of_rowMajor _ ((Shape.rowMajor_val_two _).trans
      (Eq.trans (show 0 * 16 + (l 0).val = (l 0).val by rw [Nat.zero_mul, Nat.zero_add]) (Shape.rowMajor_val_one (d := ![16]) l).symm))
  refine (chunk_apply ft fx c t b n hc _ _ ?_ ?_)
  · change t + 1 * (Shape.reshapeEquiv shapeCasts_S1x16_S16 l 0).val = t
    rw [e]; rfl
  · change 16 * o.val + 1 * (Shape.reshapeEquiv shapeCasts_S1x16_S16 l 1).val = 16 * o.val + (l 0).val
    rw [e, Nat.one_mul]; rfl

/-- Sixteen lanes stored at lane `16 * o` of the accumulator are the sum's there. -/
theorem acc_piece (ft : S204800.Idx → BitVec 32) (fx : S100000x128.Idx → F .f32) (b n : ℕ) (o : Fin 8) (off : Fin S128.rank → ℕ)
    (h : ∀ a, off a + S16.size a ≤ S128.size a) (hoff : off = ![16 * o.val]) (x : S16.Idx) :
    shapeCast S16 (accVec ft fx b n o) shapeCasts_S16_S16 x = accum ft fx b n ((Rect.unit (s := S128) off S16.size h).emb x 0) := by
  subst hoff
  have e : Shape.reshapeEquiv shapeCasts_S16_S16 x = x := Shape.reshapeEquiv_eq_of_rowMajor _ rfl
  change accVec ft fx b n o (Shape.reshapeEquiv shapeCasts_S16_S16 x) = _
  rw [e]
  unfold accVec
  congr 1
  exact Fin.ext (show 16 * o.val + (x 0).val = 16 * o.val + 1 * (x 0).val by rw [Nat.one_mul])

end Cert.Proof.Chunk

end
-- ==== Proof.Tile.lean ====
/-
  One tile's task, once, at a symbolic pair of SparseCore and subcore: it gathers the rows of its 128 tokens into its block of the
  first result, then adds up the rows of its 6272 tokens of the tail, 49 chunks of 128, and stores the sum as its row of the second.
-/
module

public import proofs.«01_k».proof.Proof.Chunk

@[expose] public section

set_option maxRecDepth 16384

noncomputable section

namespace Cert.Proof.Tile

open Cert.KernelIdeal Cert.KernelIdeal.Gen Cert.Proof.Common
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

abbrev 𝒱₀ : Variants := Variants.none

variable (d : Dev nD) (L : grid0.Coords)

/-- The SparseCore and the subcore of a grid point, and its thread. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The block of the first result and the row of the second that the tile writes. -/
abbrev gRowK (L : grid0.Coords) : Memref sig .scVector .hbm S128x128 .f32 := gV.slice (Rect.unit (s := S4096x128) (k0_off2 L) S128x128.size (k0_off2_inb L)) (fun _ => rfl)
abbrev pRowK (L : grid0.Coords) : Memref sig .scVector .hbm S128 .f32 :=
  (pV.slice (Rect.unit (s := S32x128) (k0_off12 L) S1x128.size (k0_off12_inb L)) (fun _ => rfl)).squeeze S128 squeezes_S1x128_S128

/-- The tile's number. -/
abbrev wid (L : grid0.Coords) : ℕ := 2 * (L 1).val + (L 0).val

/-- The eight vectors the loops carry. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- The tile's semaphores at zero. -/
abbrev cells0 : sProp 𝕄 :=
  iprop(semVal (VT d L, SemLoc.dma cc0_scratch3.sem) 0 ∗ semVal (VT d L, SemLoc.dma cc0_scoped0.sem) 0 ∗ semVal (VT d L, SemLoc.dma cc0_scoped1.sem) 0
    ∗ semVal (VT d L, SemLoc.dma cc0_scoped2.sem) 0 ∗ semVal (VT d L, SemLoc.dma cc0_scoped3.sem) 0)

/-- What the loop over the tile's 49 chunks of the tail keeps: the running sum of the tokens seen, the arrays read, the
    two scratch buffers at some contents, the two counters at zero. -/
def inv (ft : Buf (Elt F) (tV.view.loc (VT d L))) (fx : Buf (Elt F) (xV.view.loc (VT d L))) (qt qx : PosShare TreeShare)
    (O : CellTallies nD τ sig (HIx 1)) (W : Waits sig (HIx 1)) (i : ℕ) (v : Acc F) : sProp 𝕄 :=
  iprop(⌜v = acc8 ft fx (tailAt (wid L)) (128 * i)⌝
    ∗ Transfers.MayWaits (VT d L) (default : HIx 1) O
    ∗ (tV.view.loc (VT d L) ↦{qt} ft)
    ∗ (xV.view.loc (VT d L) ↦{qx} fx)
    ∗ (∃ s : Buf (Elt F) (sV.view.loc (VT d L)), sV.view.loc (VT d L) ↦{fullShare} s)
    ∗ (∃ r : Buf (Elt F) (rV.view.loc (VT d L)), rV.view.loc (VT d L) ↦{fullShare} r)
    ∗ semVal (VT d L, SemLoc.dma cc0_scratch3.sem) 0
    ∗ semVal (VT d L, SemLoc.dma cc0_scoped2.sem) 0
    ∗ ∃ W' : Waits sig (HIx 1), ⌜∀ p ∈ W', p ∈ W ∨ p.2 = none⌝ ∗ owes (VT d L) O W')

/-- What the loop over a chunk's 128 rows keeps: the sum of the rows seen, the rows themselves. -/
def inv₂ (ft : Buf (Elt F) (tV.view.loc (VT d L))) (fx : Buf (Elt F) (xV.view.loc (VT d L))) (b n : ℕ) (i : ℕ) (v : Acc F) : sProp 𝕄 :=
  iprop(⌜v = acc8 ft fx b (n + i)⌝ ∗ (rV.view.loc (VT d L) ↦{fullShare} chunkRows ft fx (b + n)))

/-- What the tile leaves: the arrays read as they were, its block of the first result the rows of its tokens, its row of the
    second the sum over its tail, the scratch at some contents, the counters at zero. -/
def tilePost (ft : Buf (Elt F) (tV.view.loc (VT d L))) (fx : Buf (Elt F) (xV.view.loc (VT d L))) (qt qx : PosShare TreeShare)
    (O : CellTallies nD τ sig (HIx 1)) (W : Waits sig (HIx 1)) : sProp 𝕄 :=
  iprop((tV.view.loc (VT d L) ↦{qt} ft)
    ∗ (xV.view.loc (VT d L) ↦{qx} fx)
    ∗ ((gRowK L).view.loc (VT d L) ↦[(gRowK L).view.set]{fullShare} gathered ft fx)
    ∗ ((pRowK L).view.loc (VT d L) ↦[(pRowK L).view.set]{fullShare} partials ft fx)
    ∗ (∃ s : Buf (Elt F) (sV.view.loc (VT d L)), sV.view.loc (VT d L) ↦{fullShare} s)
    ∗ (∃ r : Buf (Elt F) (rV.view.loc (VT d L)), rV.view.loc (VT d L) ↦{fullShare} r)
    ∗ (∃ a : Buf (Elt F) (aV.view.loc (VT d L)), aV.view.loc (VT d L) ↦{fullShare} a)
    ∗ cells0 d L
    ∗ ∃ W' : Waits sig (HIx 1), ⌜∀ p ∈ W', p ∈ W ∨ p.2 = none⌝ ∗ owes (VT d L) O W')

/-- The tile's block of the first result, at the rows gathered by the list fetched at the tile's first token. -/
theorem gRow_eq (ft : S204800.Idx → BitVec 32) (fx : S100000x128.Idx → F .f32) (fg : S4096x128.Idx → F .f32) (w : S128x128.Idx → F .f32)
    (hw : w = chunkRows ft fx (k0_off1 L 0)) (i : S4096x128.Idx) (hi : i ∈ (gRowK L).view.set) :
    (gRowK L).view.writes (Elt F) fg [⟨Rect.whole S128x128, w⟩] i = gathered ft fx i := by
  obtain ⟨y, -, rfl⟩ := Finset.mem_map.mp hi
  refine (congrFun (View.read_writes_whole (Val := Elt F) (gRowK L).view fg w) y).trans ?_
  rw [hw]
  refine (Chunk.gathered_eq ft fx _ y _ ?_ ?_).symm
  · change k0_off2 L 0 + 1 * (y 0).val = _
    rw [k0_off1_eq, k0_off2_eq, Nat.one_mul]; rfl
  · change k0_off2 L 1 + 1 * (y 1).val = _
    rw [k0_off2_eq, Nat.one_mul]; exact Nat.zero_add _

/-- The tile's row of the second result, at its sum. -/
theorem pRow_eq (ft : S204800.Idx → BitVec 32) (fx : S100000x128.Idx → F .f32) (fp : S32x128.Idx → F .f32) (w : S128.Idx → F .f32)
    (hw : ∀ l, w l = accum ft fx (tailAt (wid L)) 6272 (l 0)) (i : S32x128.Idx) (hi : i ∈ (pRowK L).view.set) :
    (pRowK L).view.writes (Elt F) fp [⟨Rect.whole S128, w⟩] i = partials ft fx i := by
  obtain ⟨y, -, rfl⟩ := Finset.mem_map.mp hi
  refine (congrFun (View.read_writes_whole (Val := Elt F) (pRowK L).view fp w) y).trans ?_
  rw [hw]
  have e : ∀ h : S128.numel = S1x128.numel, Shape.reshapeEquiv h y = (ix2 (0 : Fin 1) (⟨(y 0).val, (y 0).isLt⟩ : Fin 128) : S1x128.Idx) := fun h =>
    Shape.reshapeEquiv_eq_of_rowMajor _ ((Shape.rowMajor_val_two _).trans
      (Eq.trans (show 0 * 128 + (y 0).val = (y 0).val by rw [Nat.zero_mul, Nat.zero_add]) (Shape.rowMajor_val_one (d := ![128]) y).symm))
  have h0 : ((pRowK L).view.emb y 0).val = wid L := by
    change k0_off12 L 0 + 1 * (Shape.reshapeEquiv _ y 0).val = _
    rw [e]
    exact congrArg (· + 0) (congrFun (k0_off12_eq L) 0)
  have h1 : ((pRowK L).view.emb y 1).val = (y 0).val := by
    change k0_off12 L 1 + 1 * (Shape.reshapeEquiv _ y 1).val = _
    rw [e]
    exact (congrArg (· + 1 * (y 0).val) (congrFun (k0_off12_eq L) 1)).trans (show 0 + 1 * (y 0).val = (y 0).val by rw [Nat.zero_add, Nat.one_mul])
  unfold partials
  rw [h0, show (pRowK L).view.emb y 1 = y 0 from Fin.ext h1]

/-- The tile's run: from its shares of the tokens and the table and its own parts of the results to `tilePost`. -/
theorem tile_run (ft : Buf (Elt F) (tV.view.loc (VT d L))) (fx : Buf (Elt F) (xV.view.loc (VT d L)))
    (hpre : ∀ j, (ft j).toNat < 100000) (qt qx : PosShare TreeShare)
    (O : CellTallies nD τ sig (HIx 1)) (W : Waits sig (HIx 1))
    (fg : Buf (Elt F) (gV.view.loc (VT d L))) (fp : Buf (Elt F) (pV.view.loc (VT d L)))
    (s0 : Buf (Elt F) (sV.view.loc (VT d L))) (r0 : Buf (Elt F) (rV.view.loc (VT d L))) (a0 : Buf (Elt F) (aV.view.loc (VT d L))) :
    (iprop(Transfers.MayWaits (VT d L) (default : HIx 1) O
        ∗ (tV.view.loc (VT d L) ↦{qt} ft)
        ∗ (xV.view.loc (VT d L) ↦{qx} fx)
        ∗ ((gRowK L).view.loc (VT d L) ↦[(gRowK L).view.set]{fullShare} fg)
        ∗ ((pRowK L).view.loc (VT d L) ↦[(pRowK L).view.set]{fullShare} fp)
        ∗ (sV.view.loc (VT d L) ↦{fullShare} s0)
        ∗ (rV.view.loc (VT d L) ↦{fullShare} r0)
        ∗ (aV.view.loc (VT d L) ↦{fullShare} a0)
        ∗ cells0 d L
        ∗ owes (VT d L) O W) : sProp 𝕄)
      ⊢ wp frame (wpE (defs₀ (F := F)) 𝒱₀ (VT d L) none) Set.univ
          (cc0__sc_body L tV (Memref.isWhole_whole _) xV (Memref.isWhole_whole _) gV (Memref.isWhole_whole _) pV (Memref.isWhole_whole _)
            sV (Memref.isWhole_whole _) rV (Memref.isWhole_whole _) aV (Memref.isWhole_whole _) cc0_scratch3 cc0_scoped0 cc0_scoped1 cc0_scoped2 cc0_scoped3)
          fun _ => tilePost d L ft fx qt qx O W := by
  iintro ⟨#Hmw, HT, HX, HG, HP, HS, HR, HA, ⟨Hc0, Hc1, Hc2, Hc3, Hc4⟩, HO⟩
  rw [cc0__sc_body_eq_skeleton]
  sl_unfold [cc0__sc_body_skel]
  rw [k0_part1_eq_skeleton]
  sl_unfold [k0_part1_skel]
  have hin := fun off h hst g x => Chunk.list_lt (F := F) ft hpre off h hst g x
  sl_exec
  rw [Prog.bind_assoc]
  sl_for (inv d L ft fx qt qx O W) $$ [Hmw HT HX HS HR Hc0 Hc3 HO]
  case region =>
    intro k v
    unfold inv
    iintro ⟨%hv, #Hmw, HT, HX, ⟨%s1, HS⟩, ⟨%r1, HR⟩, Hc0, Hc3, %W', %hW', HO⟩
    subst hv
    unfold acc8
    sl_exec (disch := exact View.amount_pos _ _ (show 0 < S128.numel by decide))
    have e : rV.view.writes (Elt F) rV.view.junk [⟨Rect.whole S128x128, tile_run.sl.gather1_1 d L ft fx hin k s1⟩]
        = chunkRows ft fx (tailAt (wid L) + 128 * k.val) := by
      refine (Chunk.rows_landed _ _).trans ((Chunk.gather_rows ft fx hpre (k0_off3 L k) _ _ s1 _ _ _).trans ?_)
      rw [k0_off3_eq]
      congr 1
      unfold tailAt wid
      show 12544 * (L 1).val + 6272 * (L 0).val + 128 * k.val + 4096 = _
      omega
    rw [e]
    sl_for (inv₂ d L ft fx (tailAt (wid L)) (128 * k.val)) $$ [HR]
    case region =>
      intro t v
      unfold inv₂
      iintro ⟨%hv, HR⟩
      subst hv
      unfold acc8
      sl_exec
      sl_step
      isplitr
      · ipureintro
        have ht : (128 * k.val + (t.val + 1)) = (128 * k.val + t.val) + 1 := by omega
        rw [ht]
        refine Prod.ext ?_ (Prod.ext ?_ (Prod.ext ?_ (Prod.ext ?_ (Prod.ext ?_ (Prod.ext ?_ (Prod.ext ?_ ?_))))))
        · exact Chunk.acc_step ft fx _ _ (tailAt (wid L) + 128 * k.val) t.val (by omega) 0 _ _ (k0_off4_eq t)
        · exact Chunk.acc_step ft fx _ _ (tailAt (wid L) + 128 * k.val) t.val (by omega) 1 _ _ (k0_off5_eq t)
        · exact Chunk.acc_step ft fx _ _ (tailAt (wid L) + 128 * k.val) t.val (by omega) 2 _ _ (k0_off6_eq t)
        · exact Chunk.acc_step ft fx _ _ (tailAt (wid L) + 128 * k.val) t.val (by omega) 3 _ _ (k0_off7_eq t)
        · exact Chunk.acc_step ft fx _ _ (tailAt (wid L) + 128 * k.val) t.val (by omega) 4 _ _ (k0_off8_eq t)
        · exact Chunk.acc_step ft fx _ _ (tailAt (wid L) + 128 * k.val) t.val (by omega) 5 _ _ (k0_off9_eq t)
        · exact Chunk.acc_step ft fx _ _ (tailAt (wid L) + 128 * k.val) t.val (by omega) 6 _ _ (k0_off10_eq t)
        · exact Chunk.acc_step ft fx _ _ (tailAt (wid L) + 128 * k.val) t.val (by omega) 7 _ _ (k0_off11_eq t)
      · iexact HR
    · unfold inv₂
      isplitr
      · ipureintro; rfl
      · iexact HR
    iintro %v HI
    unfold inv₂
    icases HI with ⟨%hv, HR⟩
    have e₂ : 128 * k.val + Scf.trips k0_t2_loop.lb k0_t2_loop.ub k0_t2_loop.st = 128 * (k.val + 1) := by
      have : Scf.trips k0_t2_loop.lb k0_t2_loop.ub k0_t2_loop.st = 128 := by decide +kernel
      rw [this]; omega
    rw [e₂] at hv
    subst hv
    unfold acc8
    sl_exec
    sl_step
    isplitr
    · ipureintro; rfl
    isplitr; · iexact Hmw
    isplitl [HT]; · iexact HT
    isplitl [HX]; · iexact HX
    isplitl [HS]; · iexists _; iexact HS
    isplitl [HR]; · iexists _; iexact HR
    isplitl [Hc0]; · iexact Hc0
    isplitl [Hc3]; · iexact Hc3
    iexists _; isplitr [HO]
    rotate_left
    · iexact HO
    · ipureintro; intro p hp
      rcases Finset.mem_insert.mp hp with hp | hp
      · exact .inr (hp ▸ rfl)
      rcases Finset.mem_insert.mp hp with hp | hp
      · exact .inr (hp ▸ rfl)
      · exact hW' p hp
  · unfold inv
    isplitr; · ipureintro; rfl
    isplitr; · iexact Hmw
    isplitl [HT]; · iexact HT
    isplitl [HX]; · iexact HX
    isplitl [HS]; · iexists _; iexact HS
    isplitl [HR]; · iexists _; iexact HR
    isplitl [Hc0]; · iexact Hc0
    isplitl [Hc3]; · iexact Hc3
    iexists _; isplitr [HO]
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact .inl hp
  iintro %v HI
  unfold inv
  icases HI with ⟨%hv, -, HT, HX, ⟨%s1, HS⟩, ⟨%r1, HR⟩, Hc0, Hc3, %W', %hW', HO⟩
  have e₁ : 128 * Scf.trips k0_t1_loop.lb k0_t1_loop.ub k0_t1_loop.st = 6272 := by
    have : Scf.trips k0_t1_loop.lb k0_t1_loop.ub k0_t1_loop.st = 49 := by decide +kernel
    rw [this]
  rw [e₁] at hv
  subst hv
  unfold acc8
  sl_exec
  have eg : ∀ i ∈ (gRowK L).view.set, (gRowK L).view.writes (Elt F) fg [⟨Rect.whole S128x128, tile_run.sl.dma0_1 d L ft fx s0 r0 hin⟩] i = gathered ft fx i := by
    refine gRow_eq L ft fx fg _ ?_
    change rV.view.writes (Elt F) r0 [⟨Rect.whole S128x128, tile_run.sl.gather1 d L ft fx s0 hin⟩] = _
    exact (Chunk.rows_landed _ _).trans (Chunk.gather_rows ft fx hpre (k0_off1 L) _ _ s0 _ _ _)
  have ep : ∀ i ∈ (pRowK L).view.set, (pRowK L).view.writes (Elt F) fp [⟨Rect.whole S128, tile_run.sl.dma16 d L ft fx a0⟩] i = partials ft fx i := by
    refine pRow_eq L ft fx fp _ fun l => ?_
    refine View.read_writes_apply_of_pieces (Val := Elt F) aV.view a0 (fun l => accum ft fx (tailAt (wid L)) 6272 (l 0)) (tile_run.sl.HA_8 d L ft fx) ?_ l ?_
    · refine List.forall_mem_cons.2 ⟨Chunk.acc_piece ft fx _ _ 7 _ inb_S128_S16_112 rfl, List.forall_mem_cons.2 ⟨Chunk.acc_piece ft fx _ _ 6 _ inb_S128_S16_96 rfl,
        List.forall_mem_cons.2 ⟨Chunk.acc_piece ft fx _ _ 5 _ inb_S128_S16_80 rfl, List.forall_mem_cons.2 ⟨Chunk.acc_piece ft fx _ _ 4 _ inb_S128_S16_64 rfl,
        List.forall_mem_cons.2 ⟨Chunk.acc_piece ft fx _ _ 3 _ inb_S128_S16_48 rfl, List.forall_mem_cons.2 ⟨Chunk.acc_piece ft fx _ _ 2 _ inb_S128_S16_32 rfl,
        List.forall_mem_cons.2 ⟨Chunk.acc_piece ft fx _ _ 1 _ inb_S128_S16_16 rfl, List.forall_mem_cons.2 ⟨Chunk.acc_piece ft fx _ _ 0 _ inb_S128_S16_0 rfl, fun _ h => (List.not_mem_nil h).elim⟩⟩⟩⟩⟩⟩⟩⟩
    · exact View.cover_of_tiled (tile_run.sl.HA_8 d L ft fx) S16.size rfl l
  sl_step
  unfold tilePost
  isplitl [HT]; · iexact HT
  isplitl [HX]; · iexact HX
  isplitl [HG]; · iapply (Entails.of_eq (pointsTo_congr eg)); iexact HG
  isplitl [HP]; · iapply (Entails.of_eq (pointsTo_congr ep)); iexact HP
  isplitl [HS]; · iexists _; iexact HS
  isplitl [HR]; · iexists _; iexact HR
  isplitl [HA]; · iexists _; iexact HA
  isplitl [Hc0 Hc1 Hc2 Hc3 Hc4]
  · isplitl [Hc0]; · iexact Hc0
    isplitl [Hc1]; · iexact Hc1
    isplitl [Hc2]; · iexact Hc2
    isplitl [Hc3]; · iexact Hc3
    iexact Hc4
  iexists _; isplitr [HO]
  rotate_left
  · iexact HO
  · ipureintro; intro p hp
    rcases Finset.mem_insert.mp hp with hp | hp
    · exact .inr (hp ▸ rfl)
    · exact hW' p hp

end Cert.Proof.Tile

end
-- ==== Proof.Tc.lean ====
/-
  The TensorCore call: its body once at a symbolic point, what it writes back there, and the whole call as one step
  of @main, the result array left at `dense` of the four arrays it reads.
-/
module

public import proofs.«01_k».proof.Proof.Common
public import Idealize.ShloMosaic.Lib.Pipeline.Value
public import Idealize.ShloMosaic.Lib.Pipeline.FrameBody

@[expose] public section

set_option maxRecDepth 16384

noncomputable section

namespace Cert.Proof.Tc

open Cert.KernelIdeal Cert.KernelIdeal.Gen Cert.Proof.Common
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

abbrev 𝒱₀ : Variants := Variants.none

/-- The rows of the weights the call's point `k` reads, and the biases. -/
def wBlk (w : S1024x128.Idx → F .f32) (k : ℕ) : Vec F S256x128 .f32 :=
  fun z => w (ix2 ⟨(256 * k + (z 0).val) % 1024, Nat.mod_lt _ (by norm_num)⟩ (z 1))
/-- The biases of block `k`. -/
def rBlk (r : S1x1024.Idx → F .f32) (k : ℕ) : Vec F S1x256 .f32 :=
  fun z => r (ix2 0 ⟨(256 * k + (z 1).val) % 1024, Nat.mod_lt _ (by norm_num)⟩)

/-- The result array: each block of 256 columns is the body's value at the whole of the two SparseCore results and at
    that block's rows of the weights and biases. -/
def dense (g : S4096x128.Idx → F .f32) (p : S32x128.Idx → F .f32) (w : S1024x128.Idx → F .f32) (r : S1x1024.Idx → F .f32) :
    S4096x1024.Idx → F .f32 :=
  fun y => k1_pay1 g p (wBlk w ((y 1).val / 256)) (rBlk r ((y 1).val / 256)) (ix2 (y 0) ⟨(y 1).val % 256, Nat.mod_lt _ (by norm_num)⟩)

/-- The contents of an array the TensorCore names, and the assertion that it holds them. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦[M.view.set]{fullShare} f

/-! ## The body -/

/-- The body reads and writes its blocks from their first entry. -/
theorem hz : (![0, 0] : Fin 2 → Nat) = fun _ => 0 := funext fun a => by fin_cases a <;> rfl

/-- The body's run at a grid point: the four blocks it reads stay, the one it writes holds `k1_pay1` of them. -/
theorem body_run (c : Dev nD) (i : grid1.Coords)
    (M0 : Memref sig .tc .vmem S4096x128 .f32) (h0 : M0.IsWhole) (M1 : Memref sig .tc .vmem S32x128 .f32) (h1 : M1.IsWhole)
    (M2 : Memref sig .tc .vmem S256x128 .f32) (h2 : M2.IsWhole) (M3 : Memref sig .tc .vmem S1x256 .f32) (h3 : M3.IsWhole)
    (M4 : Memref sig .tc .vmem S4096x256 .f32) (h4 : M4.IsWhole)
    (x0 : Vec F S4096x128 .f32) (x1 : Vec F S32x128 .f32) (x2 : Vec F S256x128 .f32) (x3 : Vec F S1x256 .f32) (x4 : Vec F S4096x256 .f32)
    (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare (k1_pay1 x0 x1 x2 x3)) -∗ Q ⟨⟩))
      ⊢ wp frame (wpE (defs₀ (F := F)) 𝒱₀ (c : Thread nD τ) none) Set.univ (cc1__tc_body i M0 h0 M1 h1 M2 h2 M3 h3 M4 h4) Q := by
  rw [cc1__tc_body_eq_skeleton]
  sl_unfold [cc1__tc_body_skel]
  unfold owns
  iintro ⟨⟨%f0, %e0, H0⟩, ⟨%f1, %e1, H1⟩, ⟨%f2, %e2, H2⟩, ⟨%f3, %e3, H3⟩, ⟨%f4, %e4, H4⟩, Hk⟩
  sl_exec!
  sl_step
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  iexists _; isplitr; swap; (· iexact H4); ipureintro
  rw [View.read_writes_junk_eq_canon]
  sl_unfold_run_names
  rw [View.canon_unit_zero hz]
  exact congr (congr (congr (congrArg k1_pay1 ((View.ld_unit_zero hz _ _).trans e0)) ((View.ld_unit_zero hz _ _).trans e1))
    ((View.ld_unit_zero hz _ _).trans e2)) ((View.ld_unit_zero hz _ _).trans e3)

/-! ## The proof data -/

section Data

variable (G : (c : Dev nD) → Buf (Elt F) (gLoc c)) (P : (c : Dev nD) → Buf (Elt F) (pLoc c)) (W : (c : Dev nD) → Buf (Elt F) (wLoc c))
  (R : (c : Dev nD) → Buf (Elt F) (rLoc c)) (O : (c : Dev nD) → Buf (Elt F) (oLoc c))
  (rec : Dev nD → Set (SemLoc sig × HIx 1))

/-- The blocks the body finds at step `t`: of the four arrays it reads. -/
abbrev stg0 (c : Dev nD) (t : Fin cfg1.N) : Vec F S4096x128 .f32 := ((cfg1.win 0).blk t).view.read (Elt F) (G c)
abbrev stg1 (c : Dev nD) (t : Fin cfg1.N) : Vec F S32x128 .f32 := ((cfg1.win 1).blk t).view.read (Elt F) (P c)
abbrev stg2 (c : Dev nD) (t : Fin cfg1.N) : Vec F S256x128 .f32 := ((cfg1.win 2).blk t).view.read (Elt F) (W c)
abbrev stg3 (c : Dev nD) (t : Fin cfg1.N) : Vec F S1x256 .f32 := ((cfg1.win 3).blk t).view.read (Elt F) (R c)

abbrev Φc (c : Dev nD) : sProp 𝕄 := Pipeline.scopedRest (Ix := HIx 1) (Name := ℕ) (U := UU) (Lvl := ℕ) (Val := Elt F) spec1 c

/-- The call's proof data: its arrays at the given contents, each input's buffer left as fetched, the result's at the
    body's value; nothing owed. -/
def dat (c : Dev nD) : Dat τ (Elt F) (HIx 1) ℕ UU ℕ cfg1 c where
  A w := match w with
    | ⟨0, _⟩ => G c
    | ⟨1, _⟩ => P c
    | ⟨2, _⟩ => W c
    | ⟨3, _⟩ => R c
    | ⟨4, _⟩ => O c
  after w t := match w with
    | ⟨0, _⟩ => stg0 G c t
    | ⟨1, _⟩ => stg1 P c t
    | ⟨2, _⟩ => stg2 W c t
    | ⟨3, _⟩ => stg3 R c t
    | ⟨4, _⟩ => k1_pay1 (stg0 G c t) (stg1 P c t) (stg2 W c t) (stg3 R c t)
  Φ _ := Φc c
  q _ := fullShare
  owed _ := 0
  recorded _ := rec c

/-- What the body finds at step `t` in each input block. -/
theorem before_0 (c : Dev nD) (t : Fin cfg1.N) (d) : (dat G P W R O rec c).before 0 t d = stg0 G c t :=
  (Dat.before_in_eq_fetched (dat G P W R O rec c) 0 rfl (fun _ => rfl) (fun _ _ _ => rfl) (fun _ => rfl) t d).trans rfl
theorem before_1 (c : Dev nD) (t : Fin cfg1.N) (d) : (dat G P W R O rec c).before 1 t d = stg1 P c t :=
  (Dat.before_in_eq_fetched (dat G P W R O rec c) 1 rfl (fun _ => rfl) (fun _ _ _ => rfl) (fun _ => rfl) t d).trans rfl
theorem before_2 (c : Dev nD) (t : Fin cfg1.N) (d) : (dat G P W R O rec c).before 2 t d = stg2 W c t :=
  (Dat.before_in_eq_fetched (dat G P W R O rec c) 2 rfl (fun _ => rfl) (fun _ _ _ => rfl) (fun _ => rfl) t d).trans rfl
theorem before_3 (c : Dev nD) (t : Fin cfg1.N) (d) : (dat G P W R O rec c).before 3 t d = stg3 R c t :=
  (Dat.before_in_eq_fetched (dat G P W R O rec c) 3 rfl (fun _ => rfl) (fun _ _ _ => rfl) (fun _ => rfl) t d).trans rfl

/-- The body meets the pipeline's obligation at every step. -/
theorem body_obligation (c : Dev nD) : BodyObligation (dat G P W R O rec c) (defs₀ (F := F)) 𝒱₀ none Set.univ := fun t => by
  rw [bigSep_W1, bigSep_W1]
  rw [show (dat G P W R O rec c).Φ t.castSucc = Φc c from rfl, show (dat G P W R O rec c).Φ t.succ = Φc c from rfl,
    show (dat G P W R O rec c).owesAt none t.succ = (dat G P W R O rec c).owesAt none t.castSucc from rfl]
  iintro ⟨HΦ, Howes, ⟨%d0, H0⟩, ⟨%d1, H1⟩, ⟨%d2, H2⟩, ⟨%d3, H3⟩, ⟨%d4, H4⟩⟩
  rw [before_0, before_1, before_2, before_3]
  iapply (body_run c (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4)) (stg0 G c t) (stg1 P c t) (stg2 W c t) (stg3 R c t))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## What the call leaves -/

/-- Where the blocks of weights, biases and result lie at step `t`. -/
theorem idx_2 : ∀ t : Fin grid1.N, win1_2.index t 0 = t.val ∧ win1_2.index t 1 = 0 := by decide
theorem idx_3 : ∀ t : Fin grid1.N, win1_3.index t 0 = 0 ∧ win1_3.index t 1 = t.val := by decide
theorem idx_4 : ∀ t : Fin grid1.N, win1_4.index t 0 = 0 ∧ win1_4.index t 1 = t.val := by decide

/-- The first SparseCore result comes whole. -/
theorem stg0_eq (c : Dev nD) (t : Fin cfg1.N) : stg0 G c t = G c := by
  funext z
  refine congrArg (G c) (funext fun a => Fin.ext ?_)
  match a with
  | ⟨0, _⟩ => show 0 * 4096 + 1 * (z 0).val = (z 0).val; omega
  | ⟨1, _⟩ => show 0 * 128 + 1 * (z 1).val = (z 1).val; omega

/-- The second SparseCore result comes whole. -/
theorem stg1_eq (c : Dev nD) (t : Fin cfg1.N) : stg1 P c t = P c := by
  funext z
  refine congrArg (P c) (funext fun a => Fin.ext ?_)
  match a with
  | ⟨0, _⟩ => show 0 * 32 + 1 * (z 0).val = (z 0).val; omega
  | ⟨1, _⟩ => show 0 * 128 + 1 * (z 1).val = (z 1).val; omega

/-- The weights come as block `t` of 256 rows. -/
theorem stg2_eq (c : Dev nD) (t : Fin cfg1.N) : stg2 W c t = wBlk (W c) t.val := by
  have ht : t.val < 4 := N_1 ▸ t.isLt
  funext z
  have hz0 : (z 0).val < 256 := (z 0).isLt
  refine congrArg (W c) (funext fun a => Fin.ext ?_)
  match a with
  | ⟨0, _⟩ => show win1_2.index t 0 * 256 + 1 * (z 0).val = (256 * t.val + (z 0).val) % 1024
              rw [(idx_2 t).1]; omega
  | ⟨1, _⟩ => show win1_2.index t 1 * 128 + 1 * (z 1).val = (z 1).val
              rw [(idx_2 t).2]; omega

/-- The biases come as block `t` of 256 columns. -/
theorem stg3_eq (c : Dev nD) (t : Fin cfg1.N) : stg3 R c t = rBlk (R c) t.val := by
  have ht : t.val < 4 := N_1 ▸ t.isLt
  funext z
  have hz0 : (z 0).val < 1 := (z 0).isLt
  have hz1 : (z 1).val < 256 := (z 1).isLt
  refine congrArg (R c) (funext fun a => Fin.ext ?_)
  match a with
  | ⟨0, _⟩ => show win1_3.index t 0 * 1 + 1 * (z 0).val = 0
              rw [(idx_3 t).1]; omega
  | ⟨1, _⟩ => show win1_3.index t 1 * 256 + 1 * (z 1).val = (256 * t.val + (z 1).val) % 1024
              rw [(idx_3 t).2]; omega

/-- What point `t` writes back is its 256 columns of `dense`. -/
theorem flushed_eq (c : Dev nD) (t : Fin cfg1.N) :
    (dat G P W R O rec c).flushed 4 t = ((cfg1.win 4).blk t).view.read (Elt F) (dense (G c) (P c) (W c) (R c)) := by
  show (cfg1.win 4).cut (grid1.coords t) (k1_pay1 (stg0 G c t) (stg1 P c t) (stg2 W c t) (stg3 R c t)) = _
  rw [stg0_eq, stg1_eq, stg2_eq, stg3_eq]
  funext z
  have h1 : (z 1).val < 256 := (z 1).isLt
  have e0 : (((cfg1.win 4).blk t).view.emb z 0).val = (z 0).val := by
    show win1_4.index t 0 * 4096 + 1 * (z 0).val = _
    rw [(idx_4 t).1]; omega
  have e1 : (((cfg1.win 4).blk t).view.emb z 1).val = 256 * t.val + (z 1).val := by
    show win1_4.index t 1 * 256 + 1 * (z 1).val = _
    rw [(idx_4 t).2]; omega
  show k1_pay1 (G c) (P c) (wBlk (W c) t.val) (rBlk (R c) t.val) z = dense (G c) (P c) (W c) (R c) (((cfg1.win 4).blk t).view.emb z)
  unfold dense
  rw [show (((cfg1.win 4).blk t).view.emb z 1).val / 256 = t.val by omega]
  refine congrArg _ (funext fun a => Fin.ext ?_)
  match a with
  | ⟨0, _⟩ => exact e0.symm
  | ⟨1, _⟩ => show (z 1).val = (((cfg1.win 4).blk t).view.emb z 1).val % 256
              omega

/-- The result's block at step `t`: all rows, 256 columns from `256 t`. -/
theorem blk_4 : ∀ t : Fin grid1.N, win1_4.index t 0 * win1_4.size 0 = 0 ∧ win1_4.xsize (grid1.coords t) 0 = 4096
    ∧ win1_4.index t 1 * win1_4.size 1 = t.val * 256 ∧ win1_4.xsize (grid1.coords t) 1 = 256 := by decide +kernel

/-- An entry lies in block `t` exactly when its column is among the 256 from `256 t`. -/
theorem mem_blk (t : Fin cfg1.N) (i : S4096x1024.Idx) :
    i ∈ ((cfg1.win 4).blk t).view.set ↔ t.val * 256 ≤ (i 1 : Nat) ∧ (i 1 : Nat) < t.val * 256 + 256 := by
  show i ∈ ((View.whole main_v2).slice (win1_4.rect t)).set ↔ _
  rw [View.set_slice_whole, Rect.mem_set_unit]
  have h0 : (i 0 : Nat) < 4096 := (i 0).isLt
  obtain ⟨e0, e0', e1, e1'⟩ := blk_4 t
  refine ⟨fun h => ?_, fun h a => ?_⟩
  · have : win1_4.index t 1 * win1_4.size 1 ≤ (i 1 : Nat) ∧ (i 1 : Nat) < win1_4.index t 1 * win1_4.size 1 + win1_4.xsize (grid1.coords t) 1 := h 1
    rw [e1, e1'] at this; exact this
  · match a with
    | ⟨0, _⟩ => show win1_4.index t 0 * win1_4.size 0 ≤ (i 0 : Nat) ∧ (i 0 : Nat) < win1_4.index t 0 * win1_4.size 0 + win1_4.xsize (grid1.coords t) 0
                rw [e0, e0']; omega
    | ⟨1, _⟩ => show win1_4.index t 1 * win1_4.size 1 ≤ (i 1 : Nat) ∧ (i 1 : Nat) < win1_4.index t 1 * win1_4.size 1 + win1_4.xsize (grid1.coords t) 1
                rw [e1, e1']; exact h

/-- Every entry of the result lies in a block that is written back. -/
theorem cover (i : S4096x1024.Idx) : ∃ t : Fin cfg1.N, (cfg1.win 4).flush t = true ∧ i ∈ ((cfg1.win 4).blk t).view.set := by
  have h1 : (i 1 : Nat) < 1024 := (i 1).isLt
  have hN : cfg1.N = 4 := N_1
  refine ⟨⟨(i 1).val / 256, by omega⟩, flush1_4 _, ?_⟩
  rw [mem_blk]
  dsimp only
  omega

/-- At the end the result array is `dense` of the four arrays read. -/
theorem final_o (c : Dev nD) : (dat G P W R O rec c).arrAt 4 cfg1.N = dense (G c) (P c) (W c) (R c) :=
  (dat G P W R O rec c).arrAt_eq_of_cover 4 _ (fun t _ => flushed_eq G P W R O rec c t) cover

/-! ## The region -/

variable (adm : (p : Fin 1) → (pcfgs (F := F) p).Adm) (L : GSem nD τ sig → Finset (HIx 1)) (lv : GSem nD τ sig → HIx 1 → ℕ)

/-- The values for the one TensorCore call. -/
def pdats : (p : Fin 1) → (c : Dev nD) → Dat τ (Elt F) (HIx 1) ℕ UU ℕ (Pipeline.pin (pcfgs (F := F)) adm p) c
  | ⟨0, _⟩ => fun c => dat G P W R O rec c

/-- The five arrays of the call, the result's at `o`. -/
abbrev arrs (c : Dev nD) (o : Buf (Elt F) (oLoc c)) : sProp 𝕄 :=
  iprop((gLoc c ↦{fullShare} G c) ∗ (pLoc c ↦{fullShare} P c) ∗ (wLoc c ↦{fullShare} W c) ∗ (rLoc c ↦{fullShare} R c) ∗ (oLoc c ↦{fullShare} o))

/-- The call's five arrays, one by one. -/
theorem arrays_eq₀ (c : Dev nD) (f : (w : Fin cfg1.W) → Buf (Elt F) ((cfg1.win w).arr.view.loc (c.tc : Thread nD τ))) :
    ((pdats G P W R O rec adm 0 c).arrays f : sProp 𝕄)
      = iprop((gLoc c ↦{fullShare} f 0) ∗ (pLoc c ↦{fullShare} f 1) ∗ (wLoc c ↦{fullShare} f 2) ∗ (rLoc c ↦{fullShare} f 3) ∗ (oLoc c ↦{fullShare} f 4)) := by
  rw [Pipeline.arrays_eq (Pipeline.pin (pcfgs (F := F)) adm) (pdats G P W R O rec adm) 0 c launch1.arr_whole
    ((pdats G P W R O rec adm 0 c).share_full fun _ => rfl)]
  exact bigSep_W1 _

set_option backward.isDefEq.respectTransparency.types false in
/-- The call as a region of @main: from the five arrays and the core owing nothing, its recorded waits among `rec`, to
    the result's array at `dense`. -/
def reg : Pipeline.RegionSeg (pcfgs (F := F)) adm (pdats G P W R O rec adm) none defs₀ 𝒱₀ L lv 0 where
  win := launch1.win.to₀
  block_pos := launch1.block_pos
  stage_whole := launch1.stage_whole
  K := PEmpty
  osem k := k.elim
  ho := Pipeline.OwnSemFacts.none _
  hbody c := (body_obligation G P W R O rec c).loose
  hwaits := Pipeline.hwaits_of_owed_zero _ _ _ _ L lv 0 fun _ _ => rfl
  pre c := iprop(arrs G P W R c (O c) ∗ ∃ w, ⌜∀ p ∈ w, p ∈ rec c⌝ ∗ owes (c : Thread nD τ) (0 : CellTallies nD τ sig (HIx 1)) w)
  post c := iprop(arrs G P W R c (dense (G c) (P c) (W c) (R c))
    ∗ ∃ w, ⌜∀ p ∈ w, p ∈ rec c ∨ p.2 = none⌝ ∗ owes (c : Thread nD τ) (0 : CellTallies nD τ sig (HIx 1)) w)
  X _ := BI.emp
  Y _ := BI.emp
  Z _ := BI.emp
  hentry c := by
    rw [Pipeline.ownSems0_none, arrays_eq₀]
    iintro ⟨⟨Ha, %w, %hw, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists w; isplitr; · ipureintro; exact fun p hp => Or.inl (hw p hp)
      iexact HO
    isplitr <;> iempintro
  hin c := by
    rw [show (pdats G P W R O rec adm 0 c).Φ 0 = Φc c from rfl]
    iintro ⟨-, -, Hr⟩; iexact Hr
  hout c := by
    rw [Pipeline.ownSems0_none, show (pdats G P W R O rec adm 0 c).Φ (Fin.last _) = Φc c from rfl]
    iintro Hr
    isplitr; · iempintro
    isplitr; · iempintro
    iexact Hr
  hexit c := by
    rw [arrays_eq₀]
    rw [show (pdats G P W R O rec adm 0 c).arrAt 4 (Pipeline.pin (pcfgs (F := F)) adm 0).N = dense (G c) (P c) (W c) (R c) from final_o G P W R O rec c,
      show (pdats G P W R O rec adm 0 c).arrAt 0 (Pipeline.pin (pcfgs (F := F)) adm 0).N = G c from (dat G P W R O rec c).arrAt_in 0 rfl _,
      show (pdats G P W R O rec adm 0 c).arrAt 1 (Pipeline.pin (pcfgs (F := F)) adm 0).N = P c from (dat G P W R O rec c).arrAt_in 1 rfl _,
      show (pdats G P W R O rec adm 0 c).arrAt 2 (Pipeline.pin (pcfgs (F := F)) adm 0).N = W c from (dat G P W R O rec c).arrAt_in 2 rfl _,
      show (pdats G P W R O rec adm 0 c).arrAt 3 (Pipeline.pin (pcfgs (F := F)) adm 0).N = R c from (dat G P W R O rec c).arrAt_in 3 rfl _]
    iintro ⟨Ha, HO, -, -⟩
    imodintro
    isplitl [Ha]; · iexact Ha
    unfold Pipeline.Dat.owesAt Pipeline.owesWithin
    icases HO with ⟨%w, %hw, HO⟩; iexists w
    isplitr
    · ipureintro
      intro p hp
      rcases hw hp with h | ⟨_, _, rfl⟩
      · exact Or.inl h
      · exact Or.inr rfl
    iexact HO

end Data

end Cert.Proof.Tc

end
-- ==== Proof.Launch.lean ====
/-
  The SparseCore launch: what the one call hands its thirty-two tiles and what they bring back, each tile's task from
  `Tile.tile_run`, and the launch's ghost state.

  Tile `w = 2 s + c` (subcore `s` of SparseCore `c`) takes a thirty-second share of the token list and of the table, which all
  tiles read, and its own block of each result: rows `128 w … 128 w + 127` of the first, row `w` of the second. It brings
  them back with `gathered` and `partials` in the two blocks. A SparseCore's operands are its sixteen tiles' together, so
  only @main splits and joins whole arrays (`deal`).
-/
module

public import proofs.«01_k».proof.Proof.Tile
public import proofs.«01_k».proof.Proof.Tc
public import Idealize.ShloMosaic.Lib.ShareLeaves

@[expose] public section

set_option maxRecDepth 16384

noncomputable section

namespace Cert.Proof.Launch

open Cert.KernelIdeal Cert.KernelIdeal.Gen Cert.Proof.Common
open Idealize.ShloMosaic
open Idealize.ShloMosaic.SparseCore (S V)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Tile (cV jV VT gRowK pRowK wid cells0 tilePost)

variable {F : FTy → Type} [FloatOps F] [Named F]

local notation "𝕄" => MT nD τ sig (HIx 1) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores of sixteen tiles. -/
theorem nCore_zero : (K (F := F)).nCore 0 = 2 := rfl
theorem nSub_zero : (K (F := F)).nSub 0 = 16 := rfl

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The blocks of the two results -/

/-- Each result divides evenly among the thirty-two tiles; a tile's part of each. -/
theorem gdiv : 32 ∣ S4096x128.size 0 := ⟨128, rfl⟩
theorem pdiv : 32 ∣ S32x128.size 0 := ⟨1, rfl⟩
abbrev gPart (w : Fin 32) : Rect S4096x128 := Rect.part (s := S4096x128) (a₀ := 0) gdiv w
abbrev pPart (w : Fin 32) : Rect S32x128 := Rect.part (s := S32x128) (a₀ := 0) pdiv w

/-- The number of the tile on subcore `i` of SparseCore `c`. -/
def tileNo (c : Fin 2) (i : Fin 16) : Fin 32 := ⟨2 * i.val + c.val, by have := c.isLt; have := i.isLt; omega⟩

/-- The tiles, counted along both axes, are the thirty-two numbers. -/
def tiles : Fin 2 × Fin 16 ≃ Fin 32 := Equiv.ofBijective (fun x => tileNo x.1 x.2) (by
  refine (Fintype.bijective_iff_injective_and_card _).mpr ⟨fun x y h => ?_, by simp⟩
  have e : 2 * x.2.val + x.1.val = 2 * y.2.val + y.1.val := congrArg Fin.val h
  have := x.1.isLt; have := y.1.isLt
  exact Prod.ext (Fin.ext (by omega)) (Fin.ext (by omega)))

section Blocks

variable (L : grid0.Coords)

abbrev cL : Fin 2 := L 0
abbrev iL : Fin 16 := L 1
abbrev wL : Fin 32 := tileNo (cL L) (iL L)

/-- The block of the first result that a tile writes is its part of it. -/
theorem gRow_part : Rect.unit (s := S4096x128) (k0_off2 L) S128x128.size (k0_off2_inb L) = gPart (wL L) := by
  have e : 256 * (L 1).val + 128 * (L 0).val = (wL L).val * 128 := by change _ = (2 * (L 1).val + (L 0).val) * 128; ring
  unfold gPart Rect.part Rect.block
  congr 1 <;> funext a
  · rw [k0_off2_eq]
    match a with
    | 0 => simpa [Shape.partIx, Shape.partSize] using e
    | 1 => simp [Shape.partIx, Shape.partSize]
  · match a with
    | 0 => simp [Shape.partSize]
    | 1 => simp [Shape.partSize]

/-- The row of the second result that a tile writes is its part of it. -/
theorem pRow_part : Rect.unit (s := S32x128) (k0_off12 L) S1x128.size (k0_off12_inb L) = pPart (wL L) := by
  have e : 2 * (L 1).val + (L 0).val = (wL L).val := rfl
  unfold pPart Rect.part Rect.block
  congr 1 <;> funext a
  · rw [k0_off12_eq]
    match a with
    | 0 => simpa [Shape.partIx, Shape.partSize] using e
    | 1 => simp [Shape.partIx, Shape.partSize]
  · match a with
    | 0 => simp [Shape.partSize]
    | 1 => simp [Shape.partSize]

/-- The cells the tile's store to the first result touches are its part's. -/
theorem set_gRowK : (gRowK L).view.set = (gPart (wL L)).set := by
  show (gV.view.slice (Rect.unit (s := S4096x128) (k0_off2 L) S128x128.size (k0_off2_inb L))).set = _
  rw [View.set_slice, gRow_part L]; exact Finset.map_refl

/-- The cells the tile's store to the second result touches are its part's. -/
theorem set_pRowK : (pRowK L).view.set = (pPart (wL L)).set := by
  show ((pV.view.slice (Rect.unit (s := S32x128) (k0_off12 L) S1x128.size (k0_off12_inb L))).reshape S128 squeezes_S1x128_S128.numel_eq).set = _
  rw [View.set_reshape, View.set_slice]
  exact Finset.map_refl.trans (congrArg (fun r : Rect S32x128 => r.set) (pRow_part L))

end Blocks

/-! ## What the handshakes carry -/

variable (m : (ℓ : Loc nD τ sig) → Buf (Elt F) ℓ)

/-- What tile `w` is handed: its shares of the two arrays read, its blocks of the two results at `g` and `p`. -/
abbrev tilePay (d : Dev nD) (g : Buf (Elt F) (gLoc d)) (p : Buf (Elt F) (pLoc d)) (w : Fin 32) : sProp 𝕄 :=
  iprop((tLoc d ↦{leaf 5 fullShare w} m (tLoc d)) ∗ (xLoc d ↦{leaf 5 fullShare w} m (xLoc d))
    ∗ (gLoc d ↦[(gPart w).set]{fullShare} g) ∗ (pLoc d ↦[(pPart w).set]{fullShare} p))

/-- The four arrays whole. -/
abbrev whole (d : Dev nD) (g : Buf (Elt F) (gLoc d)) (p : Buf (Elt F) (pLoc d)) : sProp 𝕄 :=
  iprop((tLoc d ↦{fullShare} m (tLoc d)) ∗ (xLoc d ↦{fullShare} m (xLoc d)) ∗ (gLoc d ↦{fullShare} g) ∗ (pLoc d ↦{fullShare} p))

/-- The two results held whole are their thirty-two parts. -/
theorem deal (d : Dev nD) (g : Buf (Elt F) (gLoc d)) (p : Buf (Elt F) (pLoc d)) :
    (bigSep Finset.univ fun c : Fin 2 => bigSep Finset.univ fun i : Fin 16 => tilePay m d g p (tileNo c i)) = whole m d g p := by
  have hg : (gLoc d ↦{fullShare} g : sProp 𝕄) = bigSep Finset.univ fun w : Fin 32 => gLoc d ↦[(gPart w).set]{fullShare} g := by
    rw [← pointsTo_biUnion Finset.univ (ℓ := gLoc d) (fun w => (gPart w).set) (fun i _ j _ h => Rect.part_disjoint gdiv h), Rect.biUnion_part gdiv]; try rfl
  have hp : (pLoc d ↦{fullShare} p : sProp 𝕄) = bigSep Finset.univ fun w : Fin 32 => pLoc d ↦[(pPart w).set]{fullShare} p := by
    rw [← pointsTo_biUnion Finset.univ (ℓ := pLoc d) (fun w => (pPart w).set) (fun i _ j _ h => Rect.part_disjoint pdiv h), Rect.biUnion_part pdiv]; try rfl
  have ht : (tLoc d ↦{fullShare} m (tLoc d) : sProp 𝕄) = bigSep Finset.univ fun w : Fin 32 => tLoc d ↦{leaf 5 fullShare w} m (tLoc d) :=
    pointsTo_leaves Finset.univ (m (tLoc d)) 5 fullShare
  have hx : (xLoc d ↦{fullShare} m (xLoc d) : sProp 𝕄) = bigSep Finset.univ fun w : Fin 32 => xLoc d ↦{leaf 5 fullShare w} m (xLoc d) :=
    pointsTo_leaves Finset.univ (m (xLoc d)) 5 fullShare
  unfold whole
  rw [hg, hp, ht, hx, ← bigSep_sep', ← bigSep_sep', ← bigSep_sep', bigSep_univ_equiv tiles, bigSep_univ_prod]
  rfl

/-- The two results as the call leaves them. -/
abbrev gOut (d : Dev nD) : Buf (Elt F) (gLoc d) := gathered (m (tLoc d)) (m (xLoc d))
abbrev pOut (d : Dev nD) : Buf (Elt F) (pLoc d) := partials (m (tLoc d)) (m (xLoc d))

/-- What the call's handshakes carry to a tile and back. -/
def P : (K (F := F)).Pay (nD := nD) (Val := Elt F) (Name := ℕ) (U := UU) where
  st := fun q d c => match q with
    | 0 => bigSep Finset.univ fun i : Fin 16 => tilePay m d (m (gLoc d)) (m (pLoc d)) (tileNo (Fin.cast nCore_zero c) i)
  dn := fun q d c => match q with
    | 0 => bigSep Finset.univ fun i : Fin 16 => tilePay m d (gOut m d) (pOut m d) (tileNo (Fin.cast nCore_zero c) i)
  go := fun q d c i => match q with
    | 0 => tilePay m d (m (gLoc d)) (m (pLoc d)) (tileNo (Fin.cast nCore_zero c) (Fin.cast nSub_zero i))
  td := fun q d c i => match q with
    | 0 => tilePay m d (gOut m d) (pOut m d) (tileNo (Fin.cast nCore_zero c) (Fin.cast nSub_zero i))
  x := fun _ _ => iprop(emp)

/-- What the handshakes carry can be kept in a handshake's cell. -/
instance P_storable : (P (F := F) m).IsStorable where
  st q d c := match q with
    | 0 => (inferInstance : BI.Storable (upEmb : UEmb _ 𝕄)
      (bigSep Finset.univ fun i : Fin 16 => tilePay m d (m (gLoc d)) (m (pLoc d)) (tileNo (Fin.cast nCore_zero c) i)))
  dn q d c := match q with
    | 0 => (inferInstance : BI.Storable (upEmb : UEmb _ 𝕄)
      (bigSep Finset.univ fun i : Fin 16 => tilePay m d (gOut m d) (pOut m d) (tileNo (Fin.cast nCore_zero c) i)))
  go q d c i := match q with
    | 0 => (inferInstance : BI.Storable (upEmb : UEmb _ 𝕄)
      (tilePay m d (m (gLoc d)) (m (pLoc d)) (tileNo (Fin.cast nCore_zero c) (Fin.cast nSub_zero i))))
  td q d c i := match q with
    | 0 => (inferInstance : BI.Storable (upEmb : UEmb _ 𝕄)
      (tilePay m d (gOut m d) (pOut m d) (tileNo (Fin.cast nCore_zero c) (Fin.cast nSub_zero i))))

/-- What the run asks of the launch memory: every token number is below 100000. -/
def TokensOK : Prop := ∀ (d : Dev nD) (j : S204800.Idx), (m (tLoc d) j : BitVec 32).toNat < 100000

/-! ## The task -/

section Task

variable (d : Dev nD) (L : grid0.Coords)

/-- The tile's scoped cells: the five its copies signal, and the rest. -/
theorem ownSems0_V :
    (ownSems0 (VT d L) : sProp 𝕄)
      = iprop(semVal (VT d L, SemLoc.dma cc0_scratch3.sem) 0 ∗ semVal (VT d L, SemLoc.dma cc0_scoped0.sem) 0 ∗ semVal (VT d L, SemLoc.dma cc0_scoped1.sem) 0
          ∗ semVal (VT d L, SemLoc.dma cc0_scoped2.sem) 0 ∗ semVal (VT d L, SemLoc.dma cc0_scoped3.sem) 0
          ∗ bigSep ((((((ownCells (VT d L)).erase (VT d L, SemLoc.dma cc0_scratch3.sem)).erase (VT d L, SemLoc.dma cc0_scoped0.sem)).erase
              (VT d L, SemLoc.dma cc0_scoped1.sem)).erase (VT d L, SemLoc.dma cc0_scoped2.sem)).erase (VT d L, SemLoc.dma cc0_scoped3.sem)) fun g => semVal g 0) := by
  have hm : ∀ s : SemLoc sig, s.isScoped .scVector = true → ((VT d L, s) : GSem nD τ sig) ∈ ownCells (VT d L) := fun s h => mem_ownCells.mpr ⟨rfl, h⟩
  have hn : ∀ {s s' : SemLoc sig}, s ≠ s' → ((VT d L, s) : GSem nD τ sig) ≠ (VT d L, s') := fun h e => h (congrArg Prod.snd e)
  unfold SparseCore.Cfg.ownSems0
  rw [SparseCore.bigSep_erase' (hm (SemLoc.dma cc0_scratch3.sem) (by decide)),
    SparseCore.bigSep_erase' (Finset.mem_erase.mpr ⟨hn (by decide), hm (SemLoc.dma cc0_scoped0.sem) (by decide)⟩),
    SparseCore.bigSep_erase' (Finset.mem_erase.mpr ⟨hn (by decide), Finset.mem_erase.mpr ⟨hn (by decide), hm (SemLoc.dma cc0_scoped1.sem) (by decide)⟩⟩),
    SparseCore.bigSep_erase' (Finset.mem_erase.mpr ⟨hn (by decide), Finset.mem_erase.mpr ⟨hn (by decide), Finset.mem_erase.mpr ⟨hn (by decide),
      hm (SemLoc.dma cc0_scoped2.sem) (by decide)⟩⟩⟩),
    SparseCore.bigSep_erase' (Finset.mem_erase.mpr ⟨hn (by decide), Finset.mem_erase.mpr ⟨hn (by decide), Finset.mem_erase.mpr ⟨hn (by decide),
      Finset.mem_erase.mpr ⟨hn (by decide), hm (SemLoc.dma cc0_scoped3.sem) (by decide)⟩⟩⟩⟩)]

/-- The tile's buffers: the offset list, the rows and the sum it keeps, each at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f) ∗ (∃ f, (VT d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  have hne : ∀ {r r' : Ref sig .scVector}, r ≠ r' → (Proc.scVector (cV L) (jV L)).devRef r ≠ (Proc.scVector (cV L) (jV L)).devRef r' :=
    fun h e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨hne (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- A tile's task: from what the handshake brought it to what it takes back. -/
theorem task_run (hF : (K (F := F)).Facts) (hpre : TokensOK m) (O : CellTallies nD τ sig (HIx 1)) (W : Waits sig (HIx 1)) (hO : ∀ g, O g none = 0) :
    iprop(levAts (K (F := F)).L (K (F := F)).lev ∗ emp ∗ tilePay m d (m (gLoc d)) (m (pLoc d)) (wL L)
        ∗ scopedBufs (VT d L) ∗ scopedSems0 (VT d L) ∗ owes (VT d L) O W)
      ⊢ wp frame (wpE (defs₀ (F := F)) 𝒱₀ (VT d L) none) Set.univ
          (cc0__sc_body L tV (Memref.isWhole_whole _) xV (Memref.isWhole_whole _) gV (Memref.isWhole_whole _) pV (Memref.isWhole_whole _)
            sV (Memref.isWhole_whole _) rV (Memref.isWhole_whole _) aV (Memref.isWhole_whole _) cc0_scratch3 cc0_scoped0 cc0_scoped1 cc0_scoped2 cc0_scoped3)
          fun _ => iprop(tilePay m d (gOut m d) (pOut m d) (wL L) ∗ scopedBufs (VT d L) ∗ scopedSems0 (VT d L)
            ∗ ∃ W', ⌜∀ p ∈ W', p ∈ W ∨ p.2 = none ∨ p.2 = some (0 : Fin 1)⌝ ∗ owes (VT d L) O W') := by
  unfold tilePay
  rw [(K (F := F)).scopedBufs_V hF d (cV L) (jV L), SparseCore.Cfg.scopedSems0_V (Val := Elt F) d (cV L) (jV L), ownSems0_V, ownBufs_V,
    ← set_gRowK L, ← set_pRowK L]
  iintro ⟨#Hlv, -, ⟨Ht, Hx, Hg, Hp⟩, ⟨⟨%fs, Hs⟩, ⟨%fr, Hr⟩, ⟨%fa, Ha⟩, Hbufs⟩, ⟨H0, H1, H2, H3, H4, Hsems⟩, HO⟩
  ihave Hmw := (show levAts (K (F := F)).L (K (F := F)).lev ⊢ Transfers.MayWaits (VT d L) (default : HIx 1) O from
    (K (F := F)).mayWaits_none (thr := VT d L) hO) $$ Hlv
  ihave Hwp := (Tile.tile_run d L (m (tLoc d)) (m (xLoc d)) (hpre d) (leaf 5 fullShare (wL L)) (leaf 5 fullShare (wL L)) O W (m (gLoc d)) (m (pLoc d)) fs fr fa)
    $$ [Hmw Ht Hx Hg Hp Hs Hr Ha H0 H1 H2 H3 H4 HO]
  · isplitl [Hmw]; · iexact Hmw
    isplitl [Ht]; · iexact Ht
    isplitl [Hx]; · iexact Hx
    isplitl [Hg]; · iexact Hg
    isplitl [Hp]; · iexact Hp
    isplitl [Hs]; · iexact Hs
    isplitl [Hr]; · iexact Hr
    isplitl [Ha]; · iexact Ha
    isplitr [HO]
    · isplitl [H0]; · iexact H0
      isplitl [H1]; · iexact H1
      isplitl [H2]; · iexact H2
      isplitl [H3]; · iexact H3
      iexact H4
    iexact HO
  iapply (wp_wand frame (wpE (defs₀ (F := F)) 𝒱₀ (VT d L) none) Set.univ) $$ Hwp
  iintro %_ Hpost
  unfold tilePost
  icases Hpost with ⟨Ht, Hx, Hg, Hp, ⟨%fs', Hs⟩, ⟨%fr', Hr⟩, ⟨%fa', Ha⟩, ⟨H0, H1, H2, H3, H4⟩, %W', %hW', HO⟩
  isplitl [Ht Hx Hg Hp]
  · isplitl [Ht]; · iexact Ht
    isplitl [Hx]; · iexact Hx
    isplitl [Hg]; · iexact Hg
    iexact Hp
  isplitl [Hs Hr Ha Hbufs]
  · isplitl [Hs]; · iexists _; iexact Hs
    isplitl [Hr]; · iexists _; iexact Hr
    isplitl [Ha]; · iexists _; iexact Ha
    iexact Hbufs
  isplitl [H0 H1 H2 H3 H4 Hsems]
  · isplitl [H0]; · iexact H0
    isplitl [H1]; · iexact H1
    isplitl [H2]; · iexact H2
    isplitl [H3]; · iexact H3
    isplitl [H4]; · iexact H4
    iexact Hsems
  iexists W'; isplitr
  · ipureintro; exact fun p hp => (hW' p hp).imp_right Or.inl
  · iexact HO

end Task

/-! ## The obligation -/

/-- The grid point of a tile. -/
def coordsV (c : Fin (grid0.bound 0)) (s : Fin (grid0.bound 1)) : grid0.Coords :=
  fun | 0 => c | 1 => s | ⟨_ + 2, h⟩ => absurd h (Nat.not_lt.2 (Nat.le_add_left _ _))

/-- The body a tile runs. -/
theorem defs₀_vector (c : Fin τ.nSC) (s : Fin τ.nSub) :
    defs₀ (F := F) (.scVector c s) 0 ()
      = SparseCore.onTile hcore0 hsub0 (fun c s => cc0__sc_body (coordsV c s)
          tV (Memref.isWhole_whole _) xV (Memref.isWhole_whole _) gV (Memref.isWhole_whole _) pV (Memref.isWhole_whole _)
          sV (Memref.isWhole_whole _) rV (Memref.isWhole_whole _) aV (Memref.isWhole_whole _) cc0_scratch3 cc0_scoped0 cc0_scoped1 cc0_scoped2 cc0_scoped3) ⟨⟩ c s := rfl

/-- Every tile meets its obligation to the launch. -/
theorem tileObl (hF : (K (F := F)).Facts) (hpre : TokensOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact task_run m d (coordsV ⟨_, hci.1⟩ ⟨_, hci.2⟩) hF hpre O W hO

/-- What a SparseCore is handed splits among its tiles and is gathered again from them. -/
theorem vecSplit : (K (F := F)).VecSplit' (P m) 0 := by
  intro d c
  show (bigSep Finset.univ fun i : Fin 16 => tilePay m d (m (gLoc d)) (m (pLoc d)) (tileNo (Fin.cast nCore_zero c) i))
    ⊢ |={Set.univ}=> iprop((bigSep Finset.univ fun i : Fin 16 => tilePay m d (m (gLoc d)) (m (pLoc d)) (tileNo (Fin.cast nCore_zero c) i))
      ∗ ((bigSep Finset.univ fun i : Fin 16 => tilePay m d (gOut m d) (pOut m d) (tileNo (Fin.cast nCore_zero c) i))
        -∗ bigSep Finset.univ fun i : Fin 16 => tilePay m d (gOut m d) (pOut m d) (tileNo (Fin.cast nCore_zero c) i)))
  iintro H; imodintro
  isplitl [H]; · iexact H
  iintro H; iexact H

/-! ## The launch's ghost state -/

/-- The launch's ghost state at the start. -/
def u₀ : UU := (initOf (K (F := F)).hsCells (K (F := F)).hsToks, (initOf (Pipeline.cells cfgs cellOf_inj) (Pipeline.launchToks cfgs cellOf_inj), 1))

/-- The pipelined call's ghost state on device `d`. -/
abbrev ghost (d : Dev nD) : sProp 𝕄 := iprop(Pipeline.cellsGhost cfgs EP 0 d ∗ Pipeline.toksInit cfgs EP 0 d)

/-- That state is the handshakes' and the pipeline's first rounds. -/
theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  have hemp : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  unfold u₀
  iintro Hu
  ihave H := (ownU_split _ _) $$ Hu
  icases H with ⟨HH, HP⟩
  imod (Pipeline.fund_ghost cfgs EP cellOf_inj) $$ HP with ⟨Hc, Ht⟩
  imodintro
  isplitl [HH]; · iexact HH
  isplitl [Hc Ht]
  · rw [bigSep_sep']
    isplitl [Hc]
    · iapply (Entails.of_eq (bigSep_congr fun (d : Dev nD) _ => bigSep_univ_of_subsingleton (0 : Fin 1) (Φ := fun p => (Pipeline.cellsGhost cfgs EP p d : sProp 𝕄)))); iexact Hc
    · iapply (Entails.of_eq (bigSep_congr fun (d : Dev nD) _ => bigSep_univ_of_subsingleton (0 : Fin 1) (Φ := fun p => (Pipeline.toksInit cfgs EP p d : sProp 𝕄)))); iexact Ht
  rw [hemp]
  iempintro

end Cert.Proof.Launch

end
-- ==== Proof.Main.lean ====
/-
  @main on the TensorCore — the SparseCore call, the reshape of the biases, the TensorCore call — and the whole program's run:
  it terminates with nothing faulting, every argument at its launch contents, the result at `out`, every semaphore at zero.
-/
module

public import proofs.«01_k».proof.Proof.Launch

@[expose] public section

set_option maxRecDepth 16384

noncomputable section

namespace Cert.Proof.Main

open Cert.KernelIdeal Cert.KernelIdeal.Gen Cert.Proof.Common Cert.Proof.Launch
open Idealize.ShloMosaic
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The values along @main -/

/-- The biases as a row. -/
def bias (b : S1024.Idx → F .f32) : S1x1024.Idx → F .f32 := shapeCast S1x1024 b shapeCasts_S1024_S1x1024

/-- The result, from the four arguments it depends on. -/
def out (ft : S204800.Idx → BitVec 32) (fx : S100000x128.Idx → F .f32) (fw : S1024x128.Idx → F .f32) (fb : S1024.Idx → F .f32) :
    S4096x1024.Idx → F .f32 :=
  Tc.dense (gathered ft fx) (partials ft fx) fw (bias fb)

/-- The reshaped biases and the result, of a chip's arguments. -/
abbrev rOut (d : Dev nD) : Buf (Elt F) (rLoc d) := bias (m (bLoc d))
abbrev oOut (d : Dev nD) : Buf (Elt F) (oLoc d) := out (m (tLoc d)) (m (xLoc d)) (m (wLoc d)) (m (bLoc d))

/-! ## The buffers @main holds -/

/-- The arrays of a chip's HBM, one by one. -/
theorem unscopedBufs_eq (d : Dev nD) (W : (b : Ref sig .tc) → Buf (Elt F) ((d.tc : Thread nD τ).loc b)) :
    (unscopedBufs d W : sProp 𝕄) = iprop((tLoc d ↦{fullShare} W main_arg0) ∗ (offLoc d ↦{fullShare} W main_arg1) ∗ (xLoc d ↦{fullShare} W main_arg2)
      ∗ (wLoc d ↦{fullShare} W main_arg3) ∗ (bLoc d ↦{fullShare} W main_arg4) ∗ (gLoc d ↦{fullShare} W main_v0_0) ∗ (pLoc d ↦{fullShare} W main_v0_1)
      ∗ (rLoc d ↦{fullShare} W main_v1) ∗ (oLoc d ↦{fullShare} W main_v2)) := by
  unfold unscopedBufs
  rw [show (Finset.univ.filter fun b : Ref sig .tc => ¬ b.isScoped)
      = {main_arg0, main_arg1, main_arg2, main_arg3, main_arg4, main_v0_0, main_v0_1, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

abbrev b' : DevRef τ sig := Proc.devRef .tc main_arg4
abbrev r' : DevRef τ sig := Proc.devRef .tc main_v1
abbrev S2 : Finset (DevRef τ sig) := {b', r'}

/-- The two arrays the reshape is about. -/
theorem held_S2 (d : Dev nD) (V : Valuation τ sig (Elt F)) :
    (held (T d) S2 V : sProp 𝕄) = iprop((bLoc d ↦{fullShare} V b') ∗ (rLoc d ↦{fullShare} V r')) := by
  unfold held
  rw [SparseCore.bigSep_insert' (by decide), bigSep_singleton]

/-- The reshape of the biases. -/
abbrev opReshape : HloOp τ sig (Elt F) := StableHlo.reshape main_arg4 main_v1 (rfl : (.f32 : EltTy) = .f32) shapeCasts_S1024_S1x1024

/-- The contents at the launch. -/
def V0 (d : Dev nD) : Valuation τ sig (Elt F) := fun b => m (d, b)

/-- After the reshape the second of them holds the biases as a row. -/
theorem held_reshaped (d : Dev nD) :
    (held (T d) S2 ((opReshape (F := F)).result (V0 m d)) : sProp 𝕄) = iprop((bLoc d ↦{fullShare} m (bLoc d)) ∗ (rLoc d ↦{fullShare} rOut m d)) := by
  rw [held_S2, show (opReshape (F := F)).result (V0 m d) b' = m (bLoc d) from StableHlo.reshape_result_ne _ _ _ _ _ _ _ (by decide),
    show (opReshape (F := F)).result (V0 m d) r' = rOut m d from StableHlo.reshape_result _ _ _ _ _ _ _]

/-! ## What the SparseCore call takes and brings back -/

/-- What the SparseCore call is handed, both SparseCores' shares together. -/
theorem st0_eq (d : Dev nD) : (bigSep Finset.univ fun c : Fin ((K (F := F)).nCore 0) => (P m).st 0 d c) = whole m d (m (gLoc d)) (m (pLoc d)) :=
  (deal m d (m (gLoc d)) (m (pLoc d)))
/-- What it brings back, together. -/
theorem dn0_eq (d : Dev nD) : (bigSep Finset.univ fun c : Fin ((K (F := F)).nCore 0) => (P m).dn 0 d c) = whole m d (gOut m d) (pOut m d) :=
  (deal m d (gOut m d) (pOut m d))

/-! ## @main -/

/-- What @main leaves: the arguments at their launch contents, the result at its value. -/
abbrev FIN (d : Dev nD) : sProp 𝕄 :=
  iprop((tLoc d ↦{fullShare} m (tLoc d)) ∗ (offLoc d ↦{fullShare} m (offLoc d)) ∗ (xLoc d ↦{fullShare} m (xLoc d)) ∗ (wLoc d ↦{fullShare} m (wLoc d))
    ∗ (bLoc d ↦{fullShare} m (bLoc d)) ∗ (oLoc d ↦{fullShare} oOut m d))

/-- The pipelined call reads no table. -/
abbrev adm : (p : Fin 1) → (pcfgs (F := F) p).Adm := fun p => (cfgs p).toPCfg_adm

/-- The waits the TensorCore may have recorded when the SparseCore call is over. -/
abbrev waited (d : Dev nD) : Set (SemLoc sig × HIx 1) := {p | (K (F := F)).lev (T d, p.1) p.2 ≤ 8 * (SparseCore.Cfg.Blocks.fst (Q := 1) (N := 1) 1)}

/-- After the one SparseCore call the TensorCore owes nothing. -/
theorem Otc_one (d : Dev nD) : ((K (F := F)).Otc d 1 : CellTallies nD τ sig (HIx 1)) = 0 := by
  simp [SparseCore.Cfg.Otc]

/-- The TensorCore call is the pipelined program's own, lifted over the SparseCore call's signature. -/
theorem lift_region :
    (Prog.lift (.customCall (SparseCore.inner (Pipeline.entry 0)) ()) : Prog (TpuEff nD τ sig (Elt F) (SparseCore.Sig (ΛP (F := F)) 1) .tc) PUnit)
      = SparseCore.liftProg (Prog.op (TpuEff.customCall (Λ := ΛP (F := F)) (Pipeline.entry 0) ()) Prog.ret) := rfl

/-- What the TensorCore call takes on device `d`. -/
abbrev inReg (d : Dev nD) : sProp 𝕄 :=
  iprop(Tc.arrs (gOut m) (pOut m) (fun d => m (wLoc d)) (rOut m) d (m (oLoc d))
    ∗ ∃ w, ⌜∀ p ∈ w, p ∈ waited (F := F) d⌝ ∗ owes (T d) (0 : CellTallies nD τ sig (HIx 1)) w)

/-- What it leaves. -/
abbrev outReg (d : Dev nD) : sProp 𝕄 :=
  iprop(Tc.arrs (gOut m) (pOut m) (fun d => m (wLoc d)) (rOut m) d (oOut m d)
    ∗ ∃ w, ⌜∀ p ∈ w, p ∈ waited (F := F) d ∨ p.2 = none⌝ ∗ owes (T d) (0 : CellTallies nD τ sig (HIx 1)) w)

/-- The call itself, over the pipelined program's own signature. -/
abbrev callTc : Prog (TpuEff nD τ sig (Elt F) (ΛP (F := F)) .tc) PUnit :=
  Prog.op (TpuEff.customCall (Λ := ΛP (F := F)) (Pipeline.entry 0) ()) Prog.ret

/-- The TensorCore call, the continuation left as the region's rule leaves it. -/
theorem region_raw [∀ e, Nonempty (Elt F e)] (d : Dev nD) (Φ : PUnit → sProp 𝕄) :
    iprop((iprop(boundary (T d) ∗ outReg m d) -∗ wp frame (wpE (D (F := F)) 𝒱 (T d) none) Set.univ (.ret ⟨⟩) Φ)
        ∗ boundary (T d) ∗ inReg m d ∗ levAts (K (F := F)).L (K (F := F)).lev ∗ ghost d)
      ⊢ wp frame (wpE (D (F := F)) 𝒱 (T d) none) Set.univ callTc Φ := by
  have hinj : Function.Injective (Pipeline.cellOf (Pipeline.pin (pcfgs (F := F)) adm)) := cellOf_inj
  exact Pipeline.RegionSeg.wp (pcfgs (F := F)) adm (Tc.pdats (gOut m) (pOut m) (fun d => m (wLoc d)) (rOut m) (fun d => m (oLoc d)) (waited (F := F)) adm) none
    hinj EP defs₀ 𝒱₀ (K (F := F)).L (K (F := F)).lev
    (Tc.reg (gOut m) (pOut m) (fun d => m (wLoc d)) (rOut m) (fun d => m (oLoc d)) (waited (F := F)) adm (K (F := F)).L (K (F := F)).lev) d none (fun _ h => nomatch h) .ret Φ

/-- The TensorCore call from the resources @main holds. -/
theorem region_own [∀ e, Nonempty (Elt F e)] (d : Dev nD) (Φ : PUnit → sProp 𝕄) :
    iprop((iprop(boundary (T d) ∗ outReg m d) -∗ Φ ⟨⟩) ∗ boundary (T d) ∗ inReg m d ∗ levAts (K (F := F)).L (K (F := F)).lev ∗ ghost d)
      ⊢ wp frame (wpE (D (F := F)) 𝒱 (T d) none) Set.univ callTc Φ := by
  iintro ⟨Hk, H⟩
  iapply (region_raw m d Φ)
  isplitl [Hk]
  · iintro H
    rw [wp_ret]; imodintro
    iapply Hk; iexact H
  iexact H

/-- The TensorCore call as one step of @main. -/
theorem region [∀ e, Nonempty (Elt F e)] (d : Dev nD) (Φ : PUnit → sProp 𝕄) :
    iprop((iprop(boundary (T d) ∗ outReg m d) -∗ Φ ⟨⟩) ∗ boundary (T d) ∗ inReg m d ∗ levAts (K (F := F)).L (K (F := F)).lev ∗ ghost d)
      ⊢ wp frame (wpE ((K (F := F)).defs (D (F := F))) 𝒱 (T d) none) Set.univ
          (Prog.lift (.customCall (SparseCore.inner (Pipeline.entry 0)) ())) Φ := by
  rw [lift_region]
  exact BI.Entails.trans (region_own m d Φ) ((K (F := F)).wp_liftProg (D (F := F)) 𝒱 (T d) Set.univ none callTc Φ)

/-- @main's run on a chip's TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hoff, Hx, Hw, Hbi, Hg, Hp, Hr, Ho⟩, Hts, -⟩, Hgh⟩
  ihave #Hlv := ((K (F := F)).ctx_levAts κ) $$ Hctx
  -- the SparseCore call
  iapply ((K (F := F)).wp_run (D (F := F)) 𝒱 (EH := EH) (P := P m) κ d 0) $$ [Hst Ht Hoff Hx Hw Hbi Hg Hp Hr Ho Hb Hts Hgh]
  isplitr; · iexact Hctx
  isplitl [Hst]; · iexact Hst
  isplitl [Ht Hx Hg Hp]
  · rw [st0_eq]
    isplitl [Ht]; · iexact Ht
    isplitl [Hx]; · iexact Hx
    isplitl [Hg]; · iexact Hg
    iexact Hp
  iintro ⟨Hst, Hdn⟩
  ihave Hdn' := (Entails.of_eq (dn0_eq m d)) $$ Hdn
  icases Hdn' with ⟨Ht, Hx, Hg, Hp⟩
  -- the biases as a row
  iapply (wp_hlo_within 𝒱 (T d) none Set.univ (op := opReshape) (S := S2) (Finset.Subset.refl _) (V := V0 m d)) $$ [Hb Hbi Hr]
  · isplitl [Hb]; · iexact Hb
    rw [held_S2]
    isplitl [Hbi]; · iexact Hbi
    iexact Hr
  iintro ⟨Hb, Hheld⟩
  ihave Hh := (Entails.of_eq (held_reshaped (F := F) m d)) $$ Hheld
  icases Hh with ⟨Hbi, Hr⟩
  rw [wp_ret]; imodintro
  -- the TensorCore call
  unfold SparseCore.Cfg.tcSt
  icases Hst with ⟨⟨%w, %hw, HO⟩, Hrest⟩
  ihave HO' := (Entails.of_eq (show (owes (T d) ((K (F := F)).Otc d ((0 : Fin 1).val + 1)) w : sProp 𝕄) = owes (T d) (0 : CellTallies nD τ sig (HIx 1)) w from congrArg (fun O => owes (T d) O w) (Otc_one d))) $$ HO
  iapply (region m d)
  isplitl [Hrest Ht Hoff Hx Hbi Hts]
  swap
  · isplitl [Hb]; · iexact Hb
    isplitl [Hg Hp Hw Hr Ho HO']
    · isplitl [Hg Hp Hw Hr Ho]
      · isplitl [Hg]; · iexact Hg
        isplitl [Hp]; · iexact Hp
        isplitl [Hw]; · iexact Hw
        isplitl [Hr]; · iexact Hr
        iexact Ho
      iexists w
      isplitr; · ipureintro; exact hw
      iexact HO'
    isplitr; · iexact Hlv
    iexact Hgh
  iintro ⟨Hb, ⟨Hg, Hp, Hw, Hr, Ho⟩, %w', %hw', HO⟩
  imodintro
  isplitl [HO Hrest]
  · isplitl [HO]
    · iexists w'
      isplitr
      · ipureintro
        intro p hp
        rcases hw' p hp with h | h
        · exact h
        · rw [h]; exact Nat.zero_le _
      · rw [Otc_one]; iexact HO
    iexact Hrest
  isplitr [Hb Hts]
  · isplitl [Ht]; · iexact Ht
    isplitl [Hoff]; · iexact Hoff
    isplitl [Hx]; · iexact Hx
    isplitl [Hw]; · iexact Hw
    isplitl [Hbi]; · iexact Hbi
    iexact Ho
  isplitl [Hb] <;> iassumption

/-! ## The program's run -/

/-- What a final state owes the claims, on device `d`. -/
def fq (d : Dev nD) (s' : Phys nD τ sig (Elt F)) : Prop :=
  s'.mem.mem (tLoc d) = m (tLoc d) ∧ s'.mem.mem (offLoc d) = m (offLoc d) ∧ s'.mem.mem (xLoc d) = m (xLoc d) ∧ s'.mem.mem (wLoc d) = m (wLoc d)
    ∧ s'.mem.mem (bLoc d) = m (bLoc d) ∧ s'.mem.mem (oLoc d) = oOut m d

/-- A whole array held and the machine's memory agree. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr; · ipureintro; exact funext fun i => h i (Finset.mem_univ i)
  iexact HSI

/-- What @main holds at the end determines the memory. -/
theorem hfin (d : Dev nD) (s' : Phys nD τ sig (Elt F)) : iprop(FIN m d ∗ SI s') ⊢ (⌜fq m d s'⌝ : sProp 𝕄) := by
  iintro ⟨⟨Ht, Hoff, Hx, Hw, Hb, Ho⟩, HSI⟩
  ihave H := (agree s' (tLoc d) (m (tLoc d))) $$ [Ht HSI]; · isplitl [Ht] <;> iassumption
  icases H with ⟨%h1, HSI⟩
  ihave H := (agree s' (offLoc d) (m (offLoc d))) $$ [Hoff HSI]; · isplitl [Hoff] <;> iassumption
  icases H with ⟨%h2, HSI⟩
  ihave H := (agree s' (xLoc d) (m (xLoc d))) $$ [Hx HSI]; · isplitl [Hx] <;> iassumption
  icases H with ⟨%h3, HSI⟩
  ihave H := (agree s' (wLoc d) (m (wLoc d))) $$ [Hw HSI]; · isplitl [Hw] <;> iassumption
  icases H with ⟨%h4, HSI⟩
  ihave H := (agree s' (bLoc d) (m (bLoc d))) $$ [Hb HSI]; · isplitl [Hb] <;> iassumption
  icases H with ⟨%h5, HSI⟩
  ihave H := (agree s' (oLoc d) (oOut m d)) $$ [Ho HSI]; · isplitl [Ho] <;> iassumption
  icases H with ⟨%h6, -⟩
  ipureintro; exact ⟨h1, h2, h3, h4, h5, h6⟩

/-- The final memory: the arguments unchanged and the result at its value on every device, every semaphore at zero. -/
def QC : PUnit × MemSt nD τ sig (Elt F) → Prop := fun r =>
  (∀ d : Dev nD, r.2.mem (tLoc d) = m (tLoc d) ∧ r.2.mem (offLoc d) = m (offLoc d) ∧ r.2.mem (xLoc d) = m (xLoc d) ∧ r.2.mem (wLoc d) = m (wLoc d)
    ∧ r.2.mem (bLoc d) = m (bLoc d) ∧ r.2.mem (oLoc d) = oOut m d) ∧ r.2.sem = fun _ => 0

/-- The whole program's run: it terminates without a fault, the arguments stay, the result is `oOut`, every semaphore is at zero. -/
theorem run_main [∀ e, Nonempty (Elt F e)] (hpre : TokensOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => ghost d) (FIN m) (u₀ (F := F)) (sep_elim_left.trans (hu₀ m)) (hmain m ρ) (fq m) (hfin m) (QC m) (fun _ h hz => ⟨h, hz⟩)

end Cert.Proof.Main

end
-- ==== Proof.Pre.lean ====
/-
  What the two preconditions say of the arguments: the one, that every token names a row of the table; the other, that the offset of
  bag `n` is `n`, besides.
-/
module

public import proofs.«01_k».proof.Proof.Gen.Pre_inputs_ok
public import proofs.«01_k».proof.Proof.Gen.Pre_tokens_ok
public import proofs.«01_k».proof.Defs
public import Idealize.ShloMosaic.Lib.ReduceAll

@[expose] public section

noncomputable section

namespace Cert.Proof.Pre

open Idealize.ShloMosaic

variable {F : FTy → Type} [FloatOps F]

/-- A bit made of a truth value is 1 when the value is true. -/
theorem bit_one {b : Bool} : BitVec.ofBool b = 1#1 ↔ b = true := by cases b <;> decide

/-- A signed word that is at least 0 and below `N` is, unsigned, below `N`. -/
theorem toNat_lt_of_range {v : BitVec 32} {N : ℕ} (hN : N < 2 ^ 31)
    (h : IntOp.andi (IntOp.cmpi .sge v 0#32) (IntOp.cmpi .slt v (BitVec.ofNat 32 N)) = 1#1) : v.toNat < N := by
  obtain ⟨h0, h1⟩ := IntOp.andi_eq_one.1 h
  simp only [IntOp.cmpi, bit_one, BitVec.sle_eq_decide, BitVec.slt_eq_decide, decide_eq_true_eq, BitVec.toInt_eq_toNat_cond,
    BitVec.toNat_ofNat] at h0 h1
  have := v.isLt
  have e : N % 2 ^ 32 = N := Nat.mod_eq_of_lt (by omega)
  rw [e] at h1
  split_ifs at h0 h1 <;> omega

/-- Two words that compare equal are equal. -/
theorem eq_of_cmpi {a b : BitVec 32} (h : IntOp.cmpi .eq a b = 1#1) : a = b := by
  simpa [IntOp.cmpi, bit_one] using h

section Tokens

open Cert.Pre_tokens_ok Cert.Pre_tokens_ok.Gen

/-- The tokens' precondition read back: every token names a row of the table. -/
theorem read_tokens {a0 : IVec S204800 32} {a1 : IVec S4096 32} {a2 : FVec F S100000x128 .f32} {a3 : FVec F S1024x128 .f32} {a4 : FVec F S1024 .f32}
    (h : Cert.Pre_tokens_ok.fn a0 a1 a2 a3 a4 = fun _ => 1#1) : ∀ j, (a0 j).toNat < 100000 := fun j => by
  haveI : Subsingleton S_.Idx := ⟨fun a b => funext fun i => i.elim0⟩
  exact toNat_lt_of_range (N := 100000) (by norm_num) (Host.reduce_andi_all _ _ _ _ _ (congrFun h (fun a => a.elim0)) j)

end Tokens

section Inputs

open Cert.Pre_inputs_ok Cert.Pre_inputs_ok.Gen

/-- The value claim's precondition read back: every token names a row of the table, and bag `b` begins at token `b`. -/
theorem read {a0 : IVec S204800 32} {a1 : IVec S4096 32} {a2 : FVec F S100000x128 .f32} {a3 : FVec F S1024x128 .f32} {a4 : FVec F S1024 .f32}
    (h : Cert.Pre_inputs_ok.fn a0 a1 a2 a3 a4 = fun _ => 1#1) :
    (∀ j, (a0 j).toNat < 100000) ∧ ∀ b : S4096.Idx, a1 b = BitVec.ofNat 32 (b 0).val := by
  have h0 := congrFun h (fun a => a.elim0)
  obtain ⟨hA, hB⟩ := IntOp.andi_eq_one.1 h0
  haveI : Subsingleton S_.Idx := ⟨fun a b => funext fun i => i.elim0⟩
  refine ⟨fun j => toNat_lt_of_range (N := 100000) (by norm_num) ?_, fun b => eq_of_cmpi ?_⟩
  · exact Host.reduce_andi_all _ _ _ _ _ hA j
  · exact Host.reduce_andi_all _ _ _ _ _ hB b

end Inputs

end Cert.Proof.Pre

end
-- ==== Proof.Frames.lean ====
/-
  The frame claims. The two kernels differ only in how one constant is read, so the kernel's run at the bit-exact instance is the
  idealized kernel's with that constant read as its bits. The reference has no semaphore.
-/
module

public import proofs.«01_k».proof.Proof.Main
public import proofs.«01_k».proof.Proof.Pre
public import proofs.«01_k».proof.Proof.Gen.Kernel
public import proofs.«01_k».proof.Proof.Gen.ReferenceIdeal.Run
public import Idealize.ShloMosaic.Lib.Quiescent

@[expose] public section

set_option maxRecDepth 16384

noncomputable section

namespace Cert.Proof.Frames

open Idealize.ShloMosaic Idealize.SL.Sem

/-- A named constant read as its bits, whatever its name. -/
abbrev bitsNamed : Named Bits := ⟨fun _ _ _ bits => Scalar.ofBits _ bits⟩

/-- The arguments unchanged and every semaphore at zero, from any final state of the run. -/
theorem frame_any {F : FTy → Type} [FloatOps F] [Named F] [∀ e, Nonempty (Elt F e)]
    (m : (ℓ : Loc Cert.KernelIdeal.nD Cert.KernelIdeal.τ Cert.KernelIdeal.sig) → Buf (Elt F) ℓ) (g : Dev Cert.KernelIdeal.nD → PrngReg)
    (hm : Launch.TokensOK m) :
    θ_run (Cert.KernelIdeal.defs (F := F)) (Cert.KernelIdeal.threads (F := F)) ⟨m, fun _ => 0, g⟩ (fun r =>
      (∀ c : Dev Cert.KernelIdeal.nD, r.2.mem (Common.tLoc c) = m (Common.tLoc c) ∧ r.2.mem (Common.offLoc c) = m (Common.offLoc c)
        ∧ r.2.mem (Common.xLoc c) = m (Common.xLoc c) ∧ r.2.mem (Common.wLoc c) = m (Common.wLoc c) ∧ r.2.mem (Common.bLoc c) = m (Common.bLoc c))
      ∧ r.2.sem = fun _ => 0) :=
  (θ_run (Cert.KernelIdeal.defs (F := F)) _ _).mono
    (fun _ h => ⟨fun c => ⟨(h.1 c).1, (h.1 c).2.1, (h.1 c).2.2.1, (h.1 c).2.2.2.1, (h.1 c).2.2.2.2.1⟩, h.2⟩)
    (Main.run_main (F := F) m g hm)

attribute [local instance] bitsNamed

/-- The two programs' bodies are the same at the bit-exact instance, label by label. -/
theorem defs₀_eq : Cert.Kernel.defs₀ (F := Bits) = Cert.KernelIdeal.defs₀ (F := Bits) := by
  funext pr ℓ a
  match pr, ℓ, a with
  | .tc, 0, _ => rfl
  | .tc, 1, (_, _) => rfl
  | .scScalar _, 0, _ => rfl
  | .scScalar _, 1, _ => rfl
  | .scVector _ _, 0, _ => rfl
  | .scVector _ _, 1, _ => rfl

/-- So the two programs' definitions are the same. -/
theorem defs_eq : Cert.Kernel.defs (F := Bits) = Cert.KernelIdeal.defs (F := Bits) :=
  congrArg (fun D : Defs Cert.KernelIdeal.nD Cert.KernelIdeal.τ Cert.KernelIdeal.sig (Elt Bits) Cert.KernelIdeal.Λ₀ =>
    (Cert.KernelIdeal.sc (F := Bits)).defs (Pipeline.defs Cert.KernelIdeal.pcfgs D)) defs₀_eq

/-- The printed kernel terminates without a fault, leaves its arguments and returns every semaphore to zero. -/
theorem frame_kernel : Cert.quiescent_Kernel := fun m g hp => by
  have h := frame_any (F := Bits) m g fun d => Pre.read_tokens (hp d)
  rw [← defs_eq] at h
  exact h

/-- The same of the idealized kernel. -/
theorem frame_kernelIdeal : Cert.quiescent_KernelIdeal := fun m g hp =>
  frame_any (F := Ideal) m g fun d => Pre.read_tokens (hp d)

/-- The same under the value claim's precondition. -/
theorem frame_kernelIdeal_pre : Cert.quiescent_KernelIdeal_pre_inputs_ok := fun m g hp =>
  frame_any (F := Ideal) m g fun d => (Pre.read (hp d)).1

/-- The same of the reference. -/
theorem frame_reference : Cert.quiescent_ReferenceIdeal := fun m g _ =>
  (θ_run (Cert.ReferenceIdeal.defs (F := Ideal)) _ _).mono
    (fun r h => ⟨fun c => (h c).2, sem_eq_zero_of_no_sems (by decide) r.2⟩)
    (Cert.ReferenceIdeal.Value.run m g)

/-- The same of the reference under the value claim's precondition. -/
theorem frame_reference_pre : Cert.quiescent_ReferenceIdeal_pre_inputs_ok := fun m g _ => frame_reference m g trivial

/-- The one named constant: the printed word becomes 1/200705. -/
theorem named_inv_tail : Cert.preserves_Kernel_KernelIdeal :=
  IdealRules.named_const.statement Cert.KernelIdeal.κ "inv_tail" .f32 0x36A72ECF#32 ((200705⁻¹ : ℝ) : EReal) rfl

end Cert.Proof.Frames

end
-- ==== Proof.Product.lean ====
/-
  The last matrix product, floats as extended reals, as the kernel's TensorCore body and as the reference write it: at a row and a
  column, the sum over the 128 columns of the row's entry times the weight, plus the bias.
-/
module

public import proofs.«01_k».proof.Defs
public import proofs.«01_k».proof.Proof.Gen.KernelIdeal
public import proofs.«01_k».proof.Proof.Gen.KernelIdeal.Skeleton
public import proofs.«01_k».proof.Proof.Gen.ReferenceIdeal
public import Idealize.ShloMosaic.Lib.Pointwise

@[expose] public section

set_option maxRecDepth 16384

noncomputable section

namespace Cert.Proof.Product

open Idealize.ShloMosaic

section Kernel

open Cert.KernelIdeal Cert.KernelIdeal.Gen

/-- The named constant is the reciprocal of the last bag's count. -/
theorem inv_tail_eq : Named.named (F := Ideal) (φ := .f32) κ "inv_tail" 0x36A72ECF#32 = ((200705⁻¹ : ℝ) : EReal) :=
  (IdealRules.named_const.statement κ "inv_tail" .f32 0x36A72ECF#32 ((200705⁻¹ : ℝ) : EReal) rfl).2.2

/-- The word of a row's number is 4095's exactly when the row is the last. -/
theorem last_row (r : Fin 4096) : IntOp.cmpi CmpIPredicate.eq (BitVec.ofNat 32 r.val) 4095#32 = if r.val = 4095 then 1#1 else 0#1 := by
  have hr := r.isLt
  by_cases h : r.val = 4095
  · rw [if_pos h, h]; rfl
  · rw [if_neg h]
    have : BitVec.ofNat 32 r.val ≠ 4095#32 := fun e => h (by
      have := congrArg BitVec.toNat e
      simp only [BitVec.toNat_ofNat] at this
      omega)
    rw [show IntOp.cmpi CmpIPredicate.eq (BitVec.ofNat 32 r.val) 4095#32 = BitVec.ofBool (BitVec.ofNat 32 r.val == 4095#32) from rfl,
      beq_eq_false_iff_ne.2 this]
    rfl

/-- The TensorCore body's value at row `r`, column `c` of its block. -/
theorem kernel_apply (g : S4096x128.Idx → Ideal .f32) (p : S32x128.Idx → Ideal .f32) (w : S256x128.Idx → Ideal .f32) (b : S1x256.Idx → Ideal .f32)
    (r : Fin 4096) (c : Fin 256) :
    k1_pay1 (F := Ideal) g p w b (ix2 r c)
      = (∑ k : Fin 128, (if r.val = 4095 then ((∑ i : Fin 32, p (ix2 i k)) + g (ix2 4095 k)) * ((200705⁻¹ : ℝ) : EReal) else g (ix2 r k))
          * w (ix2 c k)) + b (ix2 0 c) := by
  pointwise [k1_pay1]
  rw [inv_tail_eq, last_row]
  split_ifs
  · rfl
  · rfl

end Kernel

section Reference

open Cert.ReferenceIdeal Cert.ReferenceIdeal.Gen

/-- The reference's product of the means `M` with the transposed weights, plus the bias, at row `r`, column `c`. -/
theorem reference_apply (M : S4096x128.Idx → Ideal .f32) (fw : S1024x128.Idx → Ideal .f32) (fb : S1024.Idx → Ideal .f32)
    (r : Fin 4096) (c : Fin 1024) :
    addf (Host.dotGeneral dot_S4096x128_S128x1024_S4096x1024_1_0_0_1_n_n none M (transpose S128x1024 [1, 0] fw transposes_S1024x128_S128x1024_1_0)) (broadcastInDim S4096x1024 ![0, 1] bcast_S1x1024_S4096x1024_0_1 (broadcastInDim S1x1024 ![1] bcast_S1024_S1x1024_1 fb)) (ix2 r c)
      = (∑ k : Fin 128, M (ix2 r k) * fw (ix2 c k)) + fb (ix1 c) := by
  pointwise []

end Reference

end Cert.Proof.Product

end
-- ==== Proof.Land.lean ====
/-
  Where the reference's two scatters put their updates, and what they therefore sum.
-/
module

public import proofs.«01_k».proof.Defs
public import proofs.«01_k».proof.Proof.Gen.ReferenceIdeal
public import Idealize.ShloMosaic.Lib.Pipeline.Value
public import Idealize.ShloMosaic.Lib.ValueIdxRank1

@[expose] public section

set_option maxRecDepth 16384

noncomputable section

namespace Cert.Proof.Land

open Cert.ReferenceIdeal Cert.ReferenceIdeal.Gen
open Idealize.ShloMosaic Idealize.ShloMosaic.ValueIdx

/-- An update lands at `r` exactly when, on every axis, its start and its window coordinate add to `r`'s coordinate. -/
theorem lands_iff {s si u : Shape} (d : ScatterDims s si u) {w : ℕ} (j : u.Idx) (idx : IVec si w) (r : s.Idx) :
    d.resultIdx? j idx = some r ↔ ∀ a, d.start j idx a + d.window j a = ((r a).val : ℤ) := by
  unfold ScatterDims.resultIdx?
  constructor
  · intro h a
    split at h
    · next hin =>
      have := congrArg Fin.val (congrFun (Option.some.inj h) a)
      have hp := (hin a).1
      simp only at this
      omega
    · cases h
  · intro h
    rw [dif_pos fun a => by rw [h a]; have := (r a).isLt; omega]
    refine congrArg some (funext fun a => Fin.ext ?_)
    simp only [h a, Int.toNat_natCast]

/-- The update of row `n`, column `c`, lands in column `c` of the row its index names. -/
theorem lands_rows (idx : IVec S204800x1 32) (n : Fin 204800) (c j : Fin 128) (b : Fin 4096) :
    scatter_S4096x128_S204800x1_S204800x128_1_0_0_1.resultIdx? (ix2 n c) idx = some (ix2 b j)
      ↔ (idx (ix2 n (0 : Fin 1))).toInt = (b.val : ℤ) ∧ c = j := by
  have s0 : scatter_S4096x128_S204800x1_S204800x128_1_0_0_1.start (ix2 n c) idx (0 : Fin 2) = (idx (ix2 n (0 : Fin 1))).toInt := by
    unfold ScatterDims.start
    rw [dif_pos (by decide)]
    refine congrArg (fun k => (idx k).toInt) (funext fun q => ?_)
    match q with
    | ⟨0, _⟩ => rfl
    | ⟨1, _⟩ => rfl
  have s1 : scatter_S4096x128_S204800x1_S204800x128_1_0_0_1.start (ix2 n c) idx (1 : Fin 2) = 0 := by
    unfold ScatterDims.start
    rw [dif_neg (by decide)]
  have w0 : scatter_S4096x128_S204800x1_S204800x128_1_0_0_1.window (ix2 n c) (0 : Fin 2) = 0 := rfl
  have w1 : scatter_S4096x128_S204800x1_S204800x128_1_0_0_1.window (ix2 n c) (1 : Fin 2) = c.val := rfl
  rw [lands_iff]
  constructor
  · intro h
    have h0 := h (0 : Fin 2)
    have h1 := h (1 : Fin 2)
    rw [s0, w0] at h0
    rw [s1, w1] at h1
    have e0 : ((ix2 b j (0 : Fin 2)).val) = b.val := rfl
    have e1 : ((ix2 b j (1 : Fin 2)).val) = j.val := rfl
    rw [e0] at h0
    rw [e1] at h1
    exact ⟨by omega, Fin.ext (by omega)⟩
  · rintro ⟨h, rfl⟩ a
    match a with
    | ⟨0, _⟩ =>
      refine (congrArg₂ (fun (x : ℤ) (y : ℕ) => x + (y : ℤ)) s0 w0).trans ?_
      rw [h]
      exact add_zero _
    | ⟨1, _⟩ =>
      refine (congrArg₂ (fun (x : ℤ) (y : ℕ) => x + (y : ℤ)) s1 w1).trans ?_
      exact zero_add _

/-- The update of position `n` lands at the position its index names. -/
theorem lands_ones (idx : IVec S204800x1 32) (n : Fin 204800) (b : Fin 4096) :
    scatter_S4096_S204800x1_S204800_n_0_0_1.resultIdx? (ix1 n) idx = some (ix1 b) ↔ (idx (ix2 n (0 : Fin 1))).toInt = (b.val : ℤ) := by
  have s0 : scatter_S4096_S204800x1_S204800_n_0_0_1.start (ix1 n) idx (0 : Fin 1) = (idx (ix2 n (0 : Fin 1))).toInt := by
    unfold ScatterDims.start
    rw [dif_pos (by decide)]
    refine congrArg (fun k => (idx k).toInt) (funext fun q => ?_)
    match q with
    | ⟨0, _⟩ => rfl
    | ⟨1, _⟩ => rfl
  have w0 : scatter_S4096_S204800x1_S204800_n_0_0_1.window (ix1 n) (0 : Fin 1) = 0 := rfl
  rw [lands_iff]
  constructor
  · intro h
    have h0 := h (0 : Fin 1)
    rw [s0, w0] at h0
    have e0 : ((ix1 b (0 : Fin 1)).val) = b.val := rfl
    rw [e0] at h0
    omega
  · intro h a
    match a with
    | ⟨0, _⟩ =>
      refine (congrArg₂ (fun (x : ℤ) (y : ℕ) => x + (y : ℤ)) s0 w0).trans ?_
      rw [h]
      exact add_zero _

/-- The scatter of rows at `(b, j)`: what was there and column `j` of every row whose index names `b`. -/
theorem scatter_rows (x : S4096x128.Idx → Ideal .f32) (idx : IVec S204800x1 32) (upd : S204800x128.Idx → Ideal .f32) (b : Fin 4096) (j : Fin 128) :
    Host.scatterAdd (F := Ideal) (φ := .f32) scatter_S4096x128_S204800x1_S204800x128_1_0_0_1 x idx upd (ix2 b j)
      = x (ix2 b j) + ∑ n : Fin 204800, if (idx (ix2 n (0 : Fin 1))).toInt = (b.val : ℤ) then upd (ix2 n j) else 0 := by
  show x (ix2 b j) + ∑ y ∈ _, upd y = _
  rw [Finset.sum_filter, sum_idx2]
  refine congrArg (x (ix2 b j) + ·) (Finset.sum_congr rfl fun n _ => ?_)
  simp only [lands_rows]
  by_cases h : (idx (ix2 n (0 : Fin 1))).toInt = (b.val : ℤ)
  · simp [h]
  · simp [h]

/-- The scatter of scalars at `b`: what was there and every update whose index names `b`. -/
theorem scatter_ones (x : S4096.Idx → Ideal .f32) (idx : IVec S204800x1 32) (upd : S204800.Idx → Ideal .f32) (b : Fin 4096) :
    Host.scatterAdd (F := Ideal) (φ := .f32) scatter_S4096_S204800x1_S204800_n_0_0_1 x idx upd (ix1 b)
      = x (ix1 b) + ∑ n : Fin 204800, if (idx (ix2 n (0 : Fin 1))).toInt = (b.val : ℤ) then upd (ix1 n) else 0 := by
  show x (ix1 b) + ∑ y ∈ _, upd y = _
  rw [Finset.sum_filter]
  refine congrArg (x (ix1 b) + ·) ?_
  refine Fintype.sum_equiv idxEquiv1 _ _ fun y => ?_
  rw [eq_ix1 y]
  exact if_congr (lands_ones idx _ b) rfl rfl

end Cert.Proof.Land

end
-- ==== Proof.Ref.lean ====
/-
  The reference's means read at an index, floats as extended reals: the bag of each token, the row taken for it, the
  sums and the counts of the bags, and their quotient.
-/
module

public import proofs.«01_k».proof.Proof.Land
public import proofs.«01_k».proof.Proof.Common
public import proofs.«01_k».proof.Proof.Gen.ReferenceIdeal.Run
public import Idealize.ShloMosaic.Lib.Routing.Ops
public import Idealize.ShloMosaic.Lib.ReduceAll
public import Idealize.ShloMosaic.Lib.IdealHost
public import Idealize.ShloMosaic.Lib.Pointwise

@[expose] public section

set_option maxRecDepth 16384

noncomputable section

namespace Cert.Proof.Ref

open Cert.ReferenceIdeal Cert.ReferenceIdeal.Gen Cert.Proof.Common
open Idealize.ShloMosaic hiding ix0 ix1 ix2 eq_ix1 eq_ix2
open Idealize.ShloMosaic.ValueIdx

/-! ## The bag of a token -/

/-- The bag of every token, as the reference computes it: how many offsets are at most the token's position, less one. -/
def seg (off : IVec S4096 32) : IVec S204800 32 :=
  subi (Host.reduce IntOp.addi (extui 32 (cmpi .sle (broadcastInDim S204800x4096 ![0, 1] bcast_S1x4096_S204800x4096_0_1 (broadcastInDim S1x4096 ![1] bcast_S4096_S1x4096_1 off)) (broadcastInDim S204800x4096 ![0, 1] bcast_S204800x1_S204800x4096_0_1 (broadcastInDim S204800x1 ![0] bcast_S204800_S204800x1_0 (iotaInDim S204800 32 0)))) natLt_1_32) (constantI S_ 32 0#32) reducesTo_S204800x4096_S204800_d1 h_S_) (broadcastInDim S204800 ![] bcast_S_S204800 (constantI S_ 32 1#32))

/-- Comparing the words of two small naturals as signed compares the naturals. -/
theorem sle_ofNat {a b : ℕ} (ha : a < 2 ^ 31) (hb : b < 2 ^ 31) :
    IntOp.cmpi .sle (BitVec.ofNat 32 a) (BitVec.ofNat 32 b) = 1#1 ↔ a ≤ b := by
  have e : ∀ c : Bool, BitVec.ofBool c = 1#1 ↔ c = true := fun c => by cases c <;> decide
  simp only [IntOp.cmpi, e, BitVec.sle_eq_decide, decide_eq_true_eq, StableHlo.Predicate.toInt_ofNat_small _ ha,
    StableHlo.Predicate.toInt_ofNat_small _ hb, Nat.cast_le]

/-- Of the naturals below `m`, `min (n + 1) m` are at most `n`. -/
theorem count_le (n m : ℕ) : Nat.count (fun q => q ≤ n) m = min (n + 1) m := by
  induction m with
  | zero => simp
  | succ m ih =>
    rw [Nat.count_succ, ih]
    split_ifs <;> omega

/-- Where bag `b` begins at token `b`, token `n` lies in bag `n`, the last bag taking the rest. -/
theorem seg_apply {off : IVec S4096 32} (hoff : ∀ b, off b = BitVec.ofNat 32 (b 0).val) (n : Fin 204800) :
    seg off (ix1 n) = BitVec.ofNat 32 (min n.val 4095) := by
  have hn := n.isLt
  have h := Routing.reduce_count (n := 204800) (m := 4096) (by norm_num) (cmpi .sle (broadcastInDim S204800x4096 ![0, 1] bcast_S1x4096_S204800x4096_0_1 (broadcastInDim S1x4096 ![1] bcast_S4096_S1x4096_1 off)) (broadcastInDim S204800x4096 ![0, 1] bcast_S204800x1_S204800x4096_0_1 (broadcastInDim S204800x1 ![0] bcast_S204800_S204800x1_0 (iotaInDim S204800 32 0))))
    natLt_1_32 reducesTo_S204800x4096_S204800_d1 h_S_ n (fun q => q ≤ n.val) (fun q => by
      have hq := q.isLt
      refine Iff.trans (Eq.congr_left ?_) (sle_ofNat (a := q.val) (b := n.val) (by omega) (by omega))
      refine congrArg₂ (IntOp.cmpi .sle) ?_ ?_
      · exact (Routing.bcCols bcast_S4096_S1x4096_1 bcast_S1x4096_S204800x4096_0_1 off n q).trans (hoff _)
      · exact Routing.bcRows bcast_S204800_S204800x1_0 bcast_S204800x1_S204800x4096_0_1 (iotaInDim S204800 32 0) n q)
  rw [count_le] at h
  refine (congrArg₂ (fun x y : BitVec 32 => x - y) h (Routing.bc0 bcast_S_S204800 (constantI S_ 32 1#32) (ix1 n))).trans ?_
  apply BitVec.eq_of_toNat_eq
  show (BitVec.ofNat 32 (min (n.val + 1) 4096) - 1#32).toNat = _
  simp only [BitVec.toNat_sub, BitVec.toNat_ofNat]
  omega

/-- The bags as the scatters read them. -/
abbrev segCol (off : IVec S4096 32) : IVec S204800x1 32 := broadcastInDim S204800x1 ![0] bcast_S204800_S204800x1_0 (seg off)

/-- The same, read as the scatters read it. -/
theorem segCol_toInt {off : IVec S4096 32} (hoff : ∀ b, off b = BitVec.ofNat 32 (b 0).val) (n : Fin 204800) :
    (segCol off (ix2 n (0 : Fin 1))).toInt = ((min n.val 4095 : ℕ) : ℤ) := by
  rw [show segCol off (ix2 n (0 : Fin 1)) = BitVec.ofNat 32 (min n.val 4095) from
    (Routing.bcCol bcast_S204800_S204800x1_0 (seg off) n).trans (seg_apply hoff n)]
  exact StableHlo.Predicate.toInt_ofNat_small _ (by omega)

/-! ## The row of a token -/

/-- The table row each token asks for: its word, from the end when negative. -/
def want (ft : IVec S204800 32) : IVec S204800x1 32 :=
  broadcastInDim S204800x1 ![0] bcast_S204800_S204800x1_0 (select (cmpi .slt ft (broadcastInDim S204800 ![] bcast_S_S204800 (constantI S_ 32 0#32))) (addi ft (broadcastInDim S204800 ![] bcast_S_S204800 (constantI S_ 32 100000#32))) ft)

/-- A token that names a row asks for that row. -/
theorem want_apply {ft : IVec S204800 32} (ht : ∀ j, (ft j).toNat < 100000) (n : Fin 204800) :
    want ft (ix2 n (0 : Fin 1)) = BitVec.ofNat 32 (rowOf (ft (ix1 n))).val := by
  refine (Routing.bcCol bcast_S204800_S204800x1_0 _ n).trans ?_
  rw [rowOf_val (ht _), BitVec.ofNat_toNat, BitVec.setWidth_eq]
  have h := ht (ix1 n)
  rw [select_apply]
  have : cmpi .slt ft (broadcastInDim S204800 ![] bcast_S_S204800 (constantI S_ 32 0#32)) (ix1 n) = 0#1 := by
    show IntOp.cmpi .slt (ft (ix1 n)) 0#32 = 0#1
    have e : ¬ (ft (ix1 n)).slt 0#32 = true := by
      simp only [BitVec.slt_eq_decide, decide_eq_true_eq, BitVec.toInt_eq_toNat_cond, BitVec.toNat_ofNat]
      split_ifs <;> omega
    simp only [IntOp.cmpi, e]
    rfl
  rw [this, select_zero]

/-- The rows the reference takes, one per token: the table's where the token names one. -/
def rows (ft : IVec S204800 32) (fx : S100000x128.Idx → Ideal .f32) : S204800x128.Idx → Ideal .f32 :=
  select (broadcastInDim S204800x128 ![0] bcast_S204800_S204800x128_0 (Host.reduce IntOp.andi (andi (cmpi .sge (want ft) (broadcastInDim S204800x1 ![] bcast_S_S204800x1 (constantI S_ 32 0#32))) (cmpi .sle (want ft) (broadcastInDim S204800x1 ![0, 1] bcast_S1x1_S204800x1_0_1 (broadcastInDim S1x1 ![1] bcast_S1_S1x1_1 (constantI S1 32 99999#32))))) (constantI S_ 1 1#1) reducesTo_S204800x1_S204800_d1 h_S_)) (Host.gather gather_S100000x128_S204800x1_S204800x128_1_0_n_n_0_1_1128 fx (want ft)) (broadcastInDim S204800x128 ![] bcast_S_S204800x128 (constant (F := Ideal) S_ .f32 0x7FC00000#32))

/-- Every token names a row of the table. -/
theorem inside {ft : IVec S204800 32} (ht : ∀ j, (ft j).toNat < 100000) (n : Fin 204800) :
    andi (cmpi .sge (want ft) (broadcastInDim S204800x1 ![] bcast_S_S204800x1 (constantI S_ 32 0#32))) (cmpi .sle (want ft) (broadcastInDim S204800x1 ![0, 1] bcast_S1x1_S204800x1_0_1 (broadcastInDim S1x1 ![1] bcast_S1_S1x1_1 (constantI S1 32 99999#32)))) (ix2 n (0 : Fin 1)) = 1#1 := by
  have hr := (rowOf (ft (ix1 n))).isLt
  refine IntOp.andi_eq_one.2 ⟨?_, ?_⟩
  · refine (congrArg (fun v => IntOp.cmpi .sge v 0#32) (want_apply ht n)).trans ?_
    exact (sle_ofNat (a := 0) (by norm_num) (by omega)).2 (Nat.zero_le _)
  · refine (congrArg (fun v => IntOp.cmpi .sle v 99999#32) (want_apply ht n)).trans ?_
    exact (sle_ofNat (b := 99999) (by omega) (by norm_num)).2 (by omega)

/-- The row taken for token `n` is the token's row of the table. -/
theorem rows_apply {ft : IVec S204800 32} (ht : ∀ j, (ft j).toNat < 100000) (fx : S100000x128.Idx → Ideal .f32) (n : Fin 204800) (j : Fin 128) :
    rows ft fx (ix2 n j) = tokRow ft fx n.val j := by
  have hm : broadcastInDim S204800x128 ![0] bcast_S204800_S204800x128_0 (Host.reduce IntOp.andi (andi (cmpi .sge (want ft) (broadcastInDim S204800x1 ![] bcast_S_S204800x1 (constantI S_ 32 0#32))) (cmpi .sle (want ft) (broadcastInDim S204800x1 ![0, 1] bcast_S1x1_S204800x1_0_1 (broadcastInDim S1x1 ![1] bcast_S1_S1x1_1 (constantI S1 32 99999#32))))) (constantI S_ 1 1#1) reducesTo_S204800x1_S204800_d1 h_S_) (ix2 n j) = 1#1 := by
    refine Host.reduce_andi_one _ _ _ _ _ rfl fun i => ?_
    rw [eq_ix2 i, Fin.fin_one_eq_zero (i 1)]
    exact inside ht _
  refine (select_apply _ _ _ _).trans ?_
  rw [hm, select_one]
  refine (Routing.gather_row (nb := 100000) (B := 128) (n := 204800) gather_S100000x128_S204800x1_S204800x128_1_0_n_n_0_1_1128 rfl rfl rfl rfl rfl fx (want ft) n j _
    (want_apply ht n) (by norm_num)).trans ?_
  unfold tokRow
  refine congrArg (fun q => fx (ix2 (rowOf (ft (ix1 q))) j)) (Fin.ext ?_)
  exact (Nat.mod_eq_of_lt n.isLt).symm

/-! ## The means -/

/-- The zeros and the ones the reference starts from. -/
abbrev zeros2 : S4096x128.Idx → Ideal .f32 := broadcastInDim S4096x128 ![] bcast_S_S4096x128 (constant S_ .f32 0x00000000#32)
abbrev zeros1 : S4096.Idx → Ideal .f32 := broadcastInDim S4096 ![] bcast_S_S4096 (constant S_ .f32 0x00000000#32)
abbrev ones : S204800.Idx → Ideal .f32 := broadcastInDim S204800 ![] bcast_S_S204800 (constant S_ .f32 0x3F800000#32)
abbrev floor1 : S4096.Idx → Ideal .f32 := broadcastInDim S4096 ![] bcast_S_S4096 (constant S_ .f32 0x3F800000#32)

/-- The bags' sums. -/
def sums (ft : IVec S204800 32) (off : IVec S4096 32) (fx : S100000x128.Idx → Ideal .f32) : S4096x128.Idx → Ideal .f32 :=
  Host.scatterAdd scatter_S4096x128_S204800x1_S204800x128_1_0_0_1 zeros2 (segCol off) (rows ft fx)

/-- The bags' counts. -/
def counts (off : IVec S4096 32) : S4096.Idx → Ideal .f32 :=
  Host.scatterAdd scatter_S4096_S204800x1_S204800_n_0_0_1 zeros1 (segCol off) ones

/-- The sum of bag `b`, at column `j`, over the tokens that lie in it. -/
theorem sums_apply {ft : IVec S204800 32} {off : IVec S4096 32} (ht : ∀ j, (ft j).toNat < 100000) (hoff : ∀ b, off b = BitVec.ofNat 32 (b 0).val)
    (fx : S100000x128.Idx → Ideal .f32) (b : Fin 4096) (j : Fin 128) :
    sums ft off fx (ix2 b j) = ∑ n : Fin 204800, if min n.val 4095 = b.val then tokRow ft fx n.val j else (0 : EReal) := by
  refine (Land.scatter_rows zeros2 (segCol off) (rows ft fx) b j).trans ?_
  rw [show zeros2 (ix2 b j) = (0 : EReal) from (Routing.bc0 _ _ _).trans Ideal.ofBits_zero_f32, zero_add]
  refine Finset.sum_congr rfl fun n _ => ?_
  rw [segCol_toInt hoff, rows_apply ht]
  exact if_congr Nat.cast_inj rfl rfl

/-- The count of bag `b`: one for every token that lies in it. -/
theorem counts_apply {off : IVec S4096 32} (hoff : ∀ b, off b = BitVec.ofNat 32 (b 0).val) (b : Fin 4096) :
    counts off (ix1 b) = ∑ n : Fin 204800, if min n.val 4095 = b.val then (1 : EReal) else 0 := by
  refine (Land.scatter_ones zeros1 (segCol off) ones b).trans ?_
  rw [show zeros1 (ix1 b) = (0 : EReal) from (Routing.bc0 _ _ _).trans Ideal.ofBits_zero_f32, zero_add]
  refine Finset.sum_congr rfl fun n _ => ?_
  rw [segCol_toInt hoff, show ones (ix1 n) = (1 : EReal) from (Routing.bc0 _ _ _).trans Ideal.ofBits_one_f32]
  exact if_congr Nat.cast_inj rfl rfl

/-- Rows divided by the larger of their count and a floor. -/
def quot (A : S4096x128.Idx → Ideal .f32) (C o : S4096.Idx → Ideal .f32) : S4096x128.Idx → Ideal .f32 :=
  Host.divf A (broadcastInDim S4096x128 ![0, 1] bcast_S4096x1_S4096x128_0_1 (broadcastInDim S4096x1 ![0] bcast_S4096_S4096x1_0 (maximumf C o)))

/-- The quotient at a row and a column. -/
theorem quot_apply (A : S4096x128.Idx → Ideal .f32) (C o : S4096.Idx → Ideal .f32) (b : Fin 4096) (j : Fin 128) :
    quot A C o (ix2 b j) = Ideal.div (A (ix2 b j)) (max (C (ix1 b)) (o (ix1 b)) : EReal) := by
  unfold quot
  rw [hostDivf_apply, Routing.bcRows bcast_S4096_S4096x1_0 bcast_S4096x1_S4096x128_0_1 (maximumf C o) b j]
  rfl

/-- The bags' means: the sums over the counts, a count below one read as one. -/
def means (ft : IVec S204800 32) (off : IVec S4096 32) (fx : S100000x128.Idx → Ideal .f32) : S4096x128.Idx → Ideal .f32 :=
  quot (sums ft off fx) (counts off) floor1

/-- The mean of bag `b` at column `j`, as a quotient of two sums over the tokens. -/
theorem means_apply {ft : IVec S204800 32} {off : IVec S4096 32} (ht : ∀ j, (ft j).toNat < 100000) (hoff : ∀ b, off b = BitVec.ofNat 32 (b 0).val)
    (fx : S100000x128.Idx → Ideal .f32) (b : Fin 4096) (j : Fin 128) :
    means ft off fx (ix2 b j)
      = Ideal.div (∑ n : Fin 204800, if min n.val 4095 = b.val then tokRow ft fx n.val j else (0 : EReal))
          (max (∑ n : Fin 204800, if min n.val 4095 = b.val then (1 : EReal) else 0) 1) := by
  unfold means
  rw [quot_apply, sums_apply ht hoff, counts_apply hoff, show floor1 (ix1 b) = (1 : EReal) from (Routing.bc0 _ _ _).trans Ideal.ofBits_one_f32]

end Cert.Proof.Ref

end
-- ==== Proof.Equal.lean ====
/-
  The kernel's result is the reference's, floats as extended reals. A bag before the last holds one token, so its mean is that
  token's row over one. The last bag holds every token from 4095 on: the kernel adds the 32 sums the tiles left and row 4095, and
  multiplies by the reciprocal of the count the reference divides by.
-/
module

public import proofs.«01_k».proof.Proof.Main
public import proofs.«01_k».proof.Proof.Product
public import proofs.«01_k».proof.Proof.Ref

@[expose] public section

set_option maxRecDepth 16384

noncomputable section

namespace Cert.Proof.Equal

open Cert.KernelIdeal Cert.KernelIdeal.Gen Cert.Proof.Common
open Idealize.ShloMosaic

/-! ## Sums over the tokens of a bag -/

/-- Of the naturals below `N`, only `b` is `b` when capped at `m`, for `b` below the cap. -/
theorem bag_one (f : ℕ → EReal) {N m b : ℕ} (hb : b < m) (hN : b < N) :
    (∑ n : Fin N, if min n.val m = b then f n.val else 0) = f b := by
  rw [Finset.sum_eq_single (⟨b, hN⟩ : Fin N)]
  · rw [if_pos (min_eq_left (le_of_lt hb))]
  · intro n _ hn
    rw [if_neg fun e => hn (Fin.ext (by show n.val = b; omega))]
  · intro h
    exact absurd (Finset.mem_univ _) h

/-- The naturals below `m + K` that the cap at `m` sends to `m` are the last `K`. -/
theorem bag_last (f : ℕ → EReal) (m K : ℕ) :
    (∑ n : Fin (m + K), if min n.val m = m then f n.val else 0) = ∑ i ∈ Finset.range K, f (m + i) := by
  rw [Fin.sum_univ_eq_sum_range (fun n => if min n m = m then f n else 0) (m + K), Finset.sum_range_add,
    Finset.sum_eq_zero fun n hn => if_neg (by have := Finset.mem_range.1 hn; omega), zero_add]
  exact Finset.sum_congr rfl fun i _ => if_pos (by omega)

/-- `W` consecutive runs of `K` terms are one run of `W * K`. -/
theorem sum_runs (f : ℕ → EReal) (a K W : ℕ) :
    (∑ w ∈ Finset.range W, ∑ i ∈ Finset.range K, f (a + K * w + i)) = ∑ i ∈ Finset.range (W * K), f (a + i) := by
  induction W with
  | zero => simp
  | succ W ih =>
    rw [Finset.sum_range_succ, ih, Nat.succ_mul, Finset.sum_range_add]
    refine congrArg (_ + ·) (Finset.sum_congr rfl fun i _ => congrArg f ?_)
    rw [Nat.mul_comm K W]
    omega

/-- The count of a bag of `K` tokens, at least one. -/
theorem count_last {K : ℕ} (hK : 1 ≤ K) : max (∑ _i ∈ Finset.range K, (1 : EReal)) 1 = ((K : ℝ) : EReal) := by
  rw [Finset.sum_const, Finset.card_range, nsmul_one, ← EReal.coe_natCast, show (1 : EReal) = ((1 : ℝ) : EReal) from rfl]
  exact max_eq_left (EReal.coe_le_coe_iff.2 (by exact_mod_cast hK))

/-- The running sum, as a sum. -/
theorem accum_eq (ft : S204800.Idx → BitVec 32) (fx : S100000x128.Idx → Ideal .f32) (b n : ℕ) (j : Fin 128) :
    accum ft fx b n j = ∑ i ∈ Finset.range n, (tokRow ft fx (b + i) j : EReal) := by
  induction n with
  | zero => exact Ideal.ofBits_zero_f32
  | succ n ih =>
    rw [Finset.sum_range_succ, ← ih]
    rfl

/-- What the kernel adds for the last bag is the sum over the bag's tokens. -/
theorem tail_eq (ft : S204800.Idx → BitVec 32) (fx : S100000x128.Idx → Ideal .f32) (j : Fin 128) :
    (∑ w : Fin 32, (partials ft fx (ix2 w j) : EReal)) + gathered ft fx (ix2 4095 j)
      = ∑ i ∈ Finset.range 200705, (tokRow ft fx (4095 + i) j : EReal) := by
  rw [show (∑ w : Fin 32, (partials ft fx (ix2 w j) : EReal)) = ∑ w : Fin 32, (accum ft fx (tailAt w.val) 6272 j : EReal) from
    Finset.sum_congr rfl fun w _ => rfl]
  rw [Finset.sum_range_succ' _ 200704, Fin.sum_univ_eq_sum_range (fun w => (accum ft fx (tailAt w) 6272 j : EReal)) 32]
  refine congrArg₂ (fun a b : EReal => a + b) ?_ rfl
  refine (Finset.sum_congr rfl fun w _ => accum_eq ft fx (tailAt w) 6272 j).trans ?_
  refine (sum_runs (fun n => tokRow ft fx n j) 4096 6272 32).trans ?_
  refine Finset.sum_congr rfl fun i _ => congrArg (fun n => (tokRow ft fx n j : EReal)) ?_
  omega

/-! ## The rows of the result -/

/-- A row of the means, as the kernel has it. -/
theorem means_eq {ft : S204800.Idx → BitVec 32} {off : S4096.Idx → BitVec 32} (ht : ∀ j, (ft j).toNat < 100000)
    (hoff : ∀ b, off b = BitVec.ofNat 32 (b 0).val) (fx : S100000x128.Idx → Ideal .f32) (r : Fin 4096) (k : Fin 128) :
    Ref.means ft off fx (ix2 r k)
      = if r.val = 4095 then ((∑ i : Fin 32, (partials ft fx (ix2 i k) : EReal)) + gathered ft fx (ix2 4095 k)) * ((200705⁻¹ : ℝ) : EReal)
        else gathered ft fx (ix2 r k) := by
  refine (Ref.means_apply ht hoff fx r k).trans ?_
  have hr := r.isLt
  by_cases h : r.val = 4095
  · rw [if_pos h, h]
    have hs := bag_last (fun n => tokRow ft fx n k) 4095 200705
    have hc := bag_last (fun _ => 1) 4095 200705
    refine (congrArg₂ (fun a b : EReal => Ideal.div a (max b 1)) hs hc).trans ?_
    have e := count_last (K := 200705) (by norm_num)
    rw [show ((200705 : ℕ) : ℝ) = (200705 : ℝ) from Nat.cast_ofNat] at e
    rw [e, Ideal.div_coe (by norm_num), one_div]
    exact congrArg (fun x : EReal => x * ((200705⁻¹ : ℝ) : EReal)) (tail_eq ft fx k).symm
  · rw [if_neg h]
    have hs := bag_one (fun n => tokRow ft fx n k) (N := 204800) (m := 4095) (b := r.val) (by omega) (by omega)
    have hc := bag_one (fun _ => 1) (N := 204800) (m := 4095) (b := r.val) (by omega) (by omega)
    refine (congrArg₂ (fun a b : EReal => Ideal.div a (max b 1)) hs hc).trans ?_
    rw [max_self, show (1 : EReal) = ((1 : ℝ) : EReal) from rfl, Ideal.div_coe one_ne_zero, one_div, inv_one]
    exact mul_one _

/-- The kernel's result is the reference's. -/
theorem out_eq {ft : S204800.Idx → BitVec 32} {off : S4096.Idx → BitVec 32} (ht : ∀ j, (ft j).toNat < 100000)
    (hoff : ∀ b, off b = BitVec.ofNat 32 (b 0).val) (fx : S100000x128.Idx → Ideal .f32) (fw : S1024x128.Idx → Ideal .f32) (fb : S1024.Idx → Ideal .f32)
    (r : Fin 4096) (c : Fin 1024) :
    Main.out ft fx fw fb (ix2 r c) = (∑ k : Fin 128, (Ref.means ft off fx (ix2 r k) : EReal) * fw (ix2 c k)) + fb (ix1 c) := by
  have hc := c.isLt
  have e : 256 * (c.val / 256) + c.val % 256 = c.val := Nat.div_add_mod _ _
  refine (Product.kernel_apply _ _ _ _ r ⟨c.val % 256, Nat.mod_lt _ (by norm_num)⟩).trans ?_
  refine congrArg₂ (fun a b : EReal => a + b) (Finset.sum_congr rfl fun k _ => ?_) ?_
  · rw [means_eq ht hoff fx r k]
    refine congrArg (fun x : EReal => _ * x) (congrArg (fun q => fw (ix2 q k)) (Fin.ext ?_))
    show (256 * (c.val / 256) + c.val % 256) % 1024 = c.val
    omega
  · refine shapeCast_apply fb _ _ _ ?_
    rw [Shape.rowMajor_val_one, Shape.rowMajor_val_two]
    show c.val = 0 * 1024 + (256 * (c.val / 256) + c.val % 256) % 1024
    omega

end Cert.Proof.Equal

end
-- ==== Proof.lean ====
/-
  The whole claim. The frames and the named constant are Proof/Frames.lean's; the value claim joins the kernel's run
  (Proof/Main.lean), the reference's run and the equality of the two results (Proof/Equal.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_inputs_ok
public import proofs.«01_k».proof.Proof.Gen.Pre_tokens_ok
public import proofs.«01_k».proof.Proof.Frames
public import proofs.«01_k».proof.Proof.Equal
public import Idealize.ShloMosaic.Adequacy
public import Idealize.ShloMosaic.Init

@[expose] public section

set_option maxRecDepth 16384

noncomputable section

namespace Cert.Proof

open Idealize.ShloMosaic Idealize.SL.Sem

/-- The kernel and the reference end with the same result, and leave their arguments as they were. -/
theorem same_result : Cert.algebraic_KernelIdeal_ReferenceIdeal_pre_inputs_ok := by
  intro m g m' g' hp hm
  refine ⟨fun c => Main.oOut (F := Ideal) m c, ?_, ?_⟩
  · exact (θ_run (Cert.KernelIdeal.defs (F := Ideal)) _ _).mono
      (fun _ h c => ⟨(h.1 c).2.2.2.2.2, (h.1 c).1, (h.1 c).2.1, (h.1 c).2.2.1, (h.1 c).2.2.2.1, (h.1 c).2.2.2.2.1⟩)
      (Main.run_main (F := Ideal) m g fun d => (Pre.read (hp d)).1)
  · refine (θ_run (Cert.ReferenceIdeal.defs (F := Ideal)) _ _).mono (fun r h c => ⟨(h c).1.trans ?_, (h c).2⟩)
      (Cert.ReferenceIdeal.Value.run m' g')
    obtain ⟨h0, h1, h2, h3, h4⟩ := hm c
    obtain ⟨ht, hoff⟩ := Pre.read (hp c)
    rw [h0, h1, h2, h3, h4]
    funext y
    rw [eq_ix2 y]
    exact (Product.reference_apply _ _ _ (y 0) (y 1)).trans (Equal.out_eq ht hoff _ _ _ (y 0) (y 1)).symm

/-- Every claim. -/
theorem claim : Cert.Claim :=
  ⟨Cert.Kernel.Gen.facts, Cert.KernelIdeal.Gen.facts, Cert.ReferenceIdeal.Gen.facts, Cert.Pre_tokens_ok.Gen.facts, Cert.Pre_inputs_ok.Gen.facts,
    Frames.frame_kernel, Frames.frame_kernelIdeal, Frames.frame_kernelIdeal_pre, Frames.frame_reference, Frames.frame_reference_pre,
    Frames.named_inv_tail, same_result⟩

end Cert.Proof

end
